-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v37_2) = v2 c
          ∧ r.2.mem ((c.tc : Thread Cert.ReferenceIdeal.nD Cert.ReferenceIdeal.τ).loc Cert.ReferenceIdeal.main_v37_3) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x4096 : Shape := ⟨3, ![2, 8192, 4096]⟩
abbrev S2112x4096 : Shape := ⟨2, ![2112, 4096]⟩
abbrev S17x32 : Shape := ⟨2, ![17, 32]⟩
abbrev S1536 : Shape := ⟨1, ![1536]⟩
abbrev S512 : Shape := ⟨1, ![512]⟩
abbrev S16384x4096 : Shape := ⟨2, ![16384, 4096]⟩
abbrev S1x1536 : Shape := ⟨2, ![1, 1536]⟩
abbrev S1x512 : Shape := ⟨2, ![1, 512]⟩
abbrev S16384x1536 : Shape := ⟨2, ![16384, 1536]⟩
abbrev S16384x512 : Shape := ⟨2, ![16384, 512]⟩
abbrev S16384x64 : Shape := ⟨2, ![16384, 64]⟩
abbrev S16384x32 : Shape := ⟨2, ![16384, 32]⟩
abbrev S512x4096 : Shape := ⟨2, ![512, 4096]⟩
abbrev S512x1536 : Shape := ⟨2, ![512, 1536]⟩
abbrev S512x512 : Shape := ⟨2, ![512, 512]⟩
abbrev S512x64 : Shape := ⟨2, ![512, 64]⟩
abbrev S512x32 : Shape := ⟨2, ![512, 32]⟩
abbrev S4096x2048 : Shape := ⟨2, ![4096, 2048]⟩
abbrev S64x4096 : Shape := ⟨2, ![64, 4096]⟩
abbrev S256x4096 : Shape := ⟨2, ![256, 4096]⟩
abbrev S256x2048 : Shape := ⟨2, ![256, 2048]⟩
abbrev S64x256 : Shape := ⟨2, ![64, 256]⟩
abbrev S1x1 : Shape := ⟨2, ![1, 1]⟩
abbrev S128x128 : Shape := ⟨2, ![128, 128]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S4096x512 : Shape := ⟨2, ![4096, 512]⟩
abbrev S256x512 : Shape := ⟨2, ![256, 512]⟩
abbrev S256x1536 : Shape := ⟨2, ![256, 1536]⟩
abbrev S256x64 : Shape := ⟨2, ![256, 64]⟩

abbrev nBuf : Space → Nat
  | .hbm => 13
  | .vmem => 23
  | .smem => 1
  | _ => 0

abbrev bufTy : (tb : Table) → Fin (tcTables nBuf tb) → BufTy
  | .hbm, ⟨0, _⟩ => ⟨S2x8192x4096, .bf16⟩
  | .hbm, ⟨1, _⟩ => ⟨S2112x4096, .fp8e4m3⟩
  | .hbm, ⟨2, _⟩ => ⟨S17x32, .f32⟩
  | .hbm, ⟨3, _⟩ => ⟨S1536, .bf16⟩
  | .hbm, ⟨4, _⟩ => ⟨S512, .bf16⟩
  | .hbm, ⟨5, _⟩ => ⟨S16384x4096, .bf16⟩
  | .hbm, ⟨6, _⟩ => ⟨S1x1536, .bf16⟩
  | .hbm, ⟨7, _⟩ => ⟨S1x512, .bf16⟩
  | .hbm, ⟨8, _⟩ => ⟨S16384x1536, .bf16⟩
  | .hbm, ⟨9, _⟩ => ⟨S16384x512, .bf16⟩
  | .hbm, ⟨10, _⟩ => ⟨S16384x64, .bf16⟩
  | .hbm, ⟨11, _⟩ => ⟨S16384x4096, .fp8e4m3⟩
  | .hbm, ⟨12, _⟩ => ⟨S16384x32, .f32⟩
  | .local _ .vmem, ⟨0, _⟩ => ⟨S512x4096, .bf16⟩
  | .local _ .vmem, ⟨1, _⟩ => ⟨S512x4096, .bf16⟩
  | .local _ .vmem, ⟨2, _⟩ => ⟨S2112x4096, .fp8e4m3⟩
  | .local _ .vmem, ⟨3, _⟩ => ⟨S1x1536, .bf16⟩
  | .local _ .vmem, ⟨4, _⟩ => ⟨S1x512, .bf16⟩
  | .local _ .vmem, ⟨5, _⟩ => ⟨S512x1536, .bf16⟩
  | .local _ .vmem, ⟨6, _⟩ => ⟨S512x1536, .bf16⟩
  | .local _ .vmem, ⟨7, _⟩ => ⟨S512x512, .bf16⟩
  | .local _ .vmem, ⟨8, _⟩ => ⟨S512x512, .bf16⟩
  | .local _ .vmem, ⟨9, _⟩ => ⟨S512x64, .bf16⟩
  | .local _ .vmem, ⟨10, _⟩ => ⟨S512x64, .bf16⟩
  | .local _ .vmem, ⟨11, _⟩ => ⟨S512x4096, .fp8e4m3⟩
  | .local _ .vmem, ⟨12, _⟩ => ⟨S512x4096, .fp8e4m3⟩
  | .local _ .vmem, ⟨13, _⟩ => ⟨S512x32, .f32⟩
  | .local _ .vmem, ⟨14, _⟩ => ⟨S512x32, .f32⟩
  | .local _ .vmem, ⟨15, _⟩ => ⟨S4096x2048, .bf16⟩
  | .local _ .vmem, ⟨16, _⟩ => ⟨S64x4096, .bf16⟩
  | .local _ .vmem, ⟨17, _⟩ => ⟨S256x4096, .bf16⟩
  | .local _ .vmem, ⟨18, _⟩ => ⟨S256x4096, .bf16⟩
  | .local _ .vmem, ⟨19, _⟩ => ⟨S256x2048, .f32⟩
  | .local _ .vmem, ⟨20, _⟩ => ⟨S256x2048, .f32⟩
  | .local _ .vmem, ⟨21, _⟩ => ⟨S64x256, .f32⟩
  | .local _ .vmem, ⟨22, _⟩ => ⟨S64x256, .f32⟩
  | .local _ .smem, ⟨0, _⟩ => ⟨S17x32, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c32_i32_6 : BitVec 32 := 32#32
  let v11 : BitVec 32 := Scalar.addi c0_i32_5 c32_i32_6
  let c1_i32 : BitVec 32 := 1#32
  ⟨c0_i32_5, v11, c1_i32⟩
def k0_mult1 (k0_t1 : Fin k0_t1_loop.trips) : BitVec 32 :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  v5030
def k0_off1 (k0_t1 : Fin k0_t1_loop.trips) : Fin 2 → Nat :=
  let c0_1559 : Index := 0#32
  let c0_i32_5 : BitVec 32 := 0#32
  let c1_i32 : BitVec 32 := 1#32
  let arg19 : BitVec 32 := Scf.iv c0_i32_5 c1_i32 k0_t1
  let v5032 : Index := Scalar.indexCast arg19
  ![0, v5032.toNat]
def k0_off2 (k0_t1 : Fin k0_t1_loop.trips) : Fin 2 → Nat :=
  let c0_1560 : Index := 0#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5036 : Index := Scalar.indexCast v5031
  ![0, v5036.toNat]
def k0_off3 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5041 : Index := Scalar.indexCast v5031
  let c0_1561 : Index := 0#32
  ![v5041.toNat, 0]
def k0_off4 (k0_t1 : Fin k0_t1_loop.trips) : Fin 2 → Nat :=
  let c1_1562 : Index := 1#32
  let c0_i32_5 : BitVec 32 := 0#32
  let c1_i32 : BitVec 32 := 1#32
  let arg19 : BitVec 32 := Scf.iv c0_i32_5 c1_i32 k0_t1
  let v5045 : Index := Scalar.indexCast arg19
  ![1, v5045.toNat]
def k0_off5 (k0_t1 : Fin k0_t1_loop.trips) : Fin 2 → Nat :=
  let c128_1563 : Index := 128#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5049 : Index := Scalar.indexCast v5031
  ![128, v5049.toNat]
def k0_off6 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5054 : Index := Scalar.indexCast v5031
  let c128_1564 : Index := 128#32
  ![v5054.toNat, 128]
def k0_off7 (k0_t1 : Fin k0_t1_loop.trips) : Fin 2 → Nat :=
  let c2_1565 : Index := 2#32
  let c0_i32_5 : BitVec 32 := 0#32
  let c1_i32 : BitVec 32 := 1#32
  let arg19 : BitVec 32 := Scf.iv c0_i32_5 c1_i32 k0_t1
  let v5058 : Index := Scalar.indexCast arg19
  ![2, v5058.toNat]
def k0_off8 (k0_t1 : Fin k0_t1_loop.trips) : Fin 2 → Nat :=
  let c256_1566 : Index := 256#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5062 : Index := Scalar.indexCast v5031
  ![256, v5062.toNat]
def k0_off9 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5067 : Index := Scalar.indexCast v5031
  let c256_1567 : Index := 256#32
  ![v5067.toNat, 256]
def k0_off10 (k0_t1 : Fin k0_t1_loop.trips) : Fin 2 → Nat :=
  let c3_1568 : Index := 3#32
  let c0_i32_5 : BitVec 32 := 0#32
  let c1_i32 : BitVec 32 := 1#32
  let arg19 : BitVec 32 := Scf.iv c0_i32_5 c1_i32 k0_t1
  let v5071 : Index := Scalar.indexCast arg19
  ![3, v5071.toNat]
def k0_off11 (k0_t1 : Fin k0_t1_loop.trips) : Fin 2 → Nat :=
  let c384_1569 : Index := 384#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5075 : Index := Scalar.indexCast v5031
  ![384, v5075.toNat]
def k0_off12 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5080 : Index := Scalar.indexCast v5031
  let c384_1570 : Index := 384#32
  ![v5080.toNat, 384]
def k0_off13 (k0_t1 : Fin k0_t1_loop.trips) : Fin 2 → Nat :=
  let c4_1571 : Index := 4#32
  let c0_i32_5 : BitVec 32 := 0#32
  let c1_i32 : BitVec 32 := 1#32
  let arg19 : BitVec 32 := Scf.iv c0_i32_5 c1_i32 k0_t1
  let v5084 : Index := Scalar.indexCast arg19
  ![4, v5084.toNat]
def k0_off14 (k0_t1 : Fin k0_t1_loop.trips) : Fin 2 → Nat :=
  let c512_1572 : Index := 512#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5088 : Index := Scalar.indexCast v5031
  ![512, v5088.toNat]
def k0_off15 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5093 : Index := Scalar.indexCast v5031
  let c512_1573 : Index := 512#32
  ![v5093.toNat, 512]
def k0_off16 (k0_t1 : Fin k0_t1_loop.trips) : Fin 2 → Nat :=
  let c5_1574 : Index := 5#32
  let c0_i32_5 : BitVec 32 := 0#32
  let c1_i32 : BitVec 32 := 1#32
  let arg19 : BitVec 32 := Scf.iv c0_i32_5 c1_i32 k0_t1
  let v5097 : Index := Scalar.indexCast arg19
  ![5, v5097.toNat]
def k0_off17 (k0_t1 : Fin k0_t1_loop.trips) : Fin 2 → Nat :=
  let c640_1575 : Index := 640#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5101 : Index := Scalar.indexCast v5031
  ![640, v5101.toNat]
def k0_off18 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5106 : Index := Scalar.indexCast v5031
  let c640_1576 : Index := 640#32
  ![v5106.toNat, 640]
def k0_off19 (k0_t1 : Fin k0_t1_loop.trips) : Fin 2 → Nat :=
  let c6_1577 : Index := 6#32
  let c0_i32_5 : BitVec 32 := 0#32
  let c1_i32 : BitVec 32 := 1#32
  let arg19 : BitVec 32 := Scf.iv c0_i32_5 c1_i32 k0_t1
  let v5110 : Index := Scalar.indexCast arg19
  ![6, v5110.toNat]
def k0_off20 (k0_t1 : Fin k0_t1_loop.trips) : Fin 2 → Nat :=
  let c768_1578 : Index := 768#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5114 : Index := Scalar.indexCast v5031
  ![768, v5114.toNat]
def k0_off21 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5119 : Index := Scalar.indexCast v5031
  let c768_1579 : Index := 768#32
  ![v5119.toNat, 768]
def k0_off22 (k0_t1 : Fin k0_t1_loop.trips) : Fin 2 → Nat :=
  let c7_1580 : Index := 7#32
  let c0_i32_5 : BitVec 32 := 0#32
  let c1_i32 : BitVec 32 := 1#32
  let arg19 : BitVec 32 := Scf.iv c0_i32_5 c1_i32 k0_t1
  let v5123 : Index := Scalar.indexCast arg19
  ![7, v5123.toNat]
def k0_off23 (k0_t1 : Fin k0_t1_loop.trips) : Fin 2 → Nat :=
  let c896_1581 : Index := 896#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5127 : Index := Scalar.indexCast v5031
  ![896, v5127.toNat]
def k0_off24 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5132 : Index := Scalar.indexCast v5031
  let c896_1582 : Index := 896#32
  ![v5132.toNat, 896]
def k0_off25 (k0_t1 : Fin k0_t1_loop.trips) : Fin 2 → Nat :=
  let c8_1583 : Index := 8#32
  let c0_i32_5 : BitVec 32 := 0#32
  let c1_i32 : BitVec 32 := 1#32
  let arg19 : BitVec 32 := Scf.iv c0_i32_5 c1_i32 k0_t1
  let v5136 : Index := Scalar.indexCast arg19
  ![8, v5136.toNat]
def k0_off26 (k0_t1 : Fin k0_t1_loop.trips) : Fin 2 → Nat :=
  let c1024_1584 : Index := 1024#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5140 : Index := Scalar.indexCast v5031
  ![1024, v5140.toNat]
def k0_off27 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5145 : Index := Scalar.indexCast v5031
  let c1024_1585 : Index := 1024#32
  ![v5145.toNat, 1024]
def k0_off28 (k0_t1 : Fin k0_t1_loop.trips) : Fin 2 → Nat :=
  let c9_1586 : Index := 9#32
  let c0_i32_5 : BitVec 32 := 0#32
  let c1_i32 : BitVec 32 := 1#32
  let arg19 : BitVec 32 := Scf.iv c0_i32_5 c1_i32 k0_t1
  let v5149 : Index := Scalar.indexCast arg19
  ![9, v5149.toNat]
def k0_off29 (k0_t1 : Fin k0_t1_loop.trips) : Fin 2 → Nat :=
  let c1152_1587 : Index := 1152#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5153 : Index := Scalar.indexCast v5031
  ![1152, v5153.toNat]
def k0_off30 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5158 : Index := Scalar.indexCast v5031
  let c1152_1588 : Index := 1152#32
  ![v5158.toNat, 1152]
def k0_off31 (k0_t1 : Fin k0_t1_loop.trips) : Fin 2 → Nat :=
  let c10_1589 : Index := 10#32
  let c0_i32_5 : BitVec 32 := 0#32
  let c1_i32 : BitVec 32 := 1#32
  let arg19 : BitVec 32 := Scf.iv c0_i32_5 c1_i32 k0_t1
  let v5162 : Index := Scalar.indexCast arg19
  ![10, v5162.toNat]
def k0_off32 (k0_t1 : Fin k0_t1_loop.trips) : Fin 2 → Nat :=
  let c1280_1590 : Index := 1280#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5166 : Index := Scalar.indexCast v5031
  ![1280, v5166.toNat]
def k0_off33 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5171 : Index := Scalar.indexCast v5031
  let c1280_1591 : Index := 1280#32
  ![v5171.toNat, 1280]
def k0_off34 (k0_t1 : Fin k0_t1_loop.trips) : Fin 2 → Nat :=
  let c11_1592 : Index := 11#32
  let c0_i32_5 : BitVec 32 := 0#32
  let c1_i32 : BitVec 32 := 1#32
  let arg19 : BitVec 32 := Scf.iv c0_i32_5 c1_i32 k0_t1
  let v5175 : Index := Scalar.indexCast arg19
  ![11, v5175.toNat]
def k0_off35 (k0_t1 : Fin k0_t1_loop.trips) : Fin 2 → Nat :=
  let c1408_1593 : Index := 1408#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5179 : Index := Scalar.indexCast v5031
  ![1408, v5179.toNat]
def k0_off36 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5184 : Index := Scalar.indexCast v5031
  let c1408_1594 : Index := 1408#32
  ![v5184.toNat, 1408]
def k0_off37 (k0_t1 : Fin k0_t1_loop.trips) : Fin 2 → Nat :=
  let c12_1595 : Index := 12#32
  let c0_i32_5 : BitVec 32 := 0#32
  let c1_i32 : BitVec 32 := 1#32
  let arg19 : BitVec 32 := Scf.iv c0_i32_5 c1_i32 k0_t1
  let v5188 : Index := Scalar.indexCast arg19
  ![12, v5188.toNat]
def k0_off38 (k0_t1 : Fin k0_t1_loop.trips) : Fin 2 → Nat :=
  let c1536_1596 : Index := 1536#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5192 : Index := Scalar.indexCast v5031
  ![1536, v5192.toNat]
def k0_off39 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5197 : Index := Scalar.indexCast v5031
  let c1536_1597 : Index := 1536#32
  ![v5197.toNat, 1536]
def k0_off40 (k0_t1 : Fin k0_t1_loop.trips) : Fin 2 → Nat :=
  let c13_1598 : Index := 13#32
  let c0_i32_5 : BitVec 32 := 0#32
  let c1_i32 : BitVec 32 := 1#32
  let arg19 : BitVec 32 := Scf.iv c0_i32_5 c1_i32 k0_t1
  let v5201 : Index := Scalar.indexCast arg19
  ![13, v5201.toNat]
def k0_off41 (k0_t1 : Fin k0_t1_loop.trips) : Fin 2 → Nat :=
  let c1664_1599 : Index := 1664#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5205 : Index := Scalar.indexCast v5031
  ![1664, v5205.toNat]
def k0_off42 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5210 : Index := Scalar.indexCast v5031
  let c1664_1600 : Index := 1664#32
  ![v5210.toNat, 1664]
def k0_off43 (k0_t1 : Fin k0_t1_loop.trips) : Fin 2 → Nat :=
  let c14_1601 : Index := 14#32
  let c0_i32_5 : BitVec 32 := 0#32
  let c1_i32 : BitVec 32 := 1#32
  let arg19 : BitVec 32 := Scf.iv c0_i32_5 c1_i32 k0_t1
  let v5214 : Index := Scalar.indexCast arg19
  ![14, v5214.toNat]
def k0_off44 (k0_t1 : Fin k0_t1_loop.trips) : Fin 2 → Nat :=
  let c1792_1602 : Index := 1792#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5218 : Index := Scalar.indexCast v5031
  ![1792, v5218.toNat]
def k0_off45 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5223 : Index := Scalar.indexCast v5031
  let c1792_1603 : Index := 1792#32
  ![v5223.toNat, 1792]
def k0_off46 (k0_t1 : Fin k0_t1_loop.trips) : Fin 2 → Nat :=
  let c15_1604 : Index := 15#32
  let c0_i32_5 : BitVec 32 := 0#32
  let c1_i32 : BitVec 32 := 1#32
  let arg19 : BitVec 32 := Scf.iv c0_i32_5 c1_i32 k0_t1
  let v5227 : Index := Scalar.indexCast arg19
  ![15, v5227.toNat]
def k0_off47 (k0_t1 : Fin k0_t1_loop.trips) : Fin 2 → Nat :=
  let c1920_1605 : Index := 1920#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5231 : Index := Scalar.indexCast v5031
  ![1920, v5231.toNat]
def k0_off48 (k0_t1 : Fin k0_t1_loop.trips) : Fin 2 → Nat :=
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5236 : Index := Scalar.indexCast v5031
  let c1920_1606 : Index := 1920#32
  ![v5236.toNat, 1920]
def k0_off49 (k0_t1 : Fin k0_t1_loop.trips) : Fin 2 → Nat :=
  let c16_1607 : Index := 16#32
  let c0_i32_5 : BitVec 32 := 0#32
  let c1_i32 : BitVec 32 := 1#32
  let arg19 : BitVec 32 := Scf.iv c0_i32_5 c1_i32 k0_t1
  let v5240 : Index := Scalar.indexCast arg19
  ![16, v5240.toNat]
def k0_off50 (k0_t1 : Fin k0_t1_loop.trips) : Fin 2 → Nat :=
  let c2048_1608 : Index := 2048#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5244 : Index := Scalar.indexCast v5031
  ![2048, v5244.toNat]
def k0_off51 (k0_t1 : Fin k0_t1_loop.trips) : Fin 2 → Nat :=
  let c0_1609 : Index := 0#32
  let c0_i32_5 : BitVec 32 := 0#32
  let c1_i32 : BitVec 32 := 1#32
  let arg19 : BitVec 32 := Scf.iv c0_i32_5 c1_i32 k0_t1
  let c128_i32 : BitVec 32 := 128#32
  let v5030 : BitVec 32 := Scalar.muli arg19 c128_i32
  let v5031 : BitVec 32 := v5030
  let v5248 : Index := Scalar.indexCast v5031
  ![0, v5248.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 1 → Memref sig .tc .smem S17x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2112x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x8192x4096 : Shape := ⟨3, ![2, 8192, 4096]⟩
abbrev S2112x4096 : Shape := ⟨2, ![2112, 4096]⟩
abbrev S17x32 : Shape := ⟨2, ![17, 32]⟩
abbrev S1536 : Shape := ⟨1, ![1536]⟩
abbrev S512 : Shape := ⟨1, ![512]⟩
abbrev S16384x32x128 : Shape := ⟨3, ![16384, 32, 128]⟩
abbrev S_ : Shape := ⟨0, ![]⟩
abbrev S16384x32 : Shape := ⟨2, ![16384, 32]⟩
abbrev S16384x4096 : Shape := ⟨2, ![16384, 4096]⟩
abbrev S17x128x32 : Shape := ⟨3, ![17, 128, 32]⟩
abbrev S2176x32 : Shape := ⟨2, ![2176, 32]⟩
abbrev S2176x32x128 : Shape := ⟨3, ![2176, 32, 128]⟩
abbrev S2176x4096 : Shape := ⟨2, ![2176, 4096]⟩
abbrev S1x1536 : Shape := ⟨2, ![1, 1536]⟩
abbrev S1x512 : Shape := ⟨2, ![1, 512]⟩
abbrev S16384x1536 : Shape := ⟨2, ![16384, 1536]⟩
abbrev S16384x512 : Shape := ⟨2, ![16384, 512]⟩
abbrev S16384x64 : Shape := ⟨2, ![16384, 64]⟩
abbrev S1536x4096 : Shape := ⟨2, ![1536, 4096]⟩
abbrev S576x4096 : Shape := ⟨2, ![576, 4096]⟩
abbrev S16384x576 : Shape := ⟨2, ![16384, 576]⟩
abbrev S16384 : Shape := ⟨1, ![16384]⟩
abbrev S16384x1 : Shape := ⟨2, ![16384, 1]⟩

abbrev nBuf : Space → Nat
  | .hbm => 57
  | .vmem => 11
  | .smem => 0
  | _ => 0

abbrev bufTy : (tb : Table) → Fin (tcTables nBuf tb) → BufTy
  | .hbm, ⟨0, _⟩ => ⟨S2x8192x4096, .bf16⟩
  | .hbm, ⟨1, _⟩ => ⟨S2112x4096, .fp8e4m3⟩
  | .hbm, ⟨2, _⟩ => ⟨S17x32, .f32⟩
  | .hbm, ⟨3, _⟩ => ⟨S1536, .bf16⟩
  | .hbm, ⟨4, _⟩ => ⟨S512, .bf16⟩
  | .hbm, ⟨5, _⟩ => ⟨S2x8192x4096, .f32⟩
  | .hbm, ⟨6, _⟩ => ⟨S16384x32x128, .f32⟩
  | .hbm, ⟨7, _⟩ => ⟨S16384x32x128, .f32⟩
  | .hbm, ⟨8, _⟩ => ⟨S_, .f32⟩
  | .hbm, ⟨9, _⟩ => ⟨S16384x32, .f32⟩
  | .hbm, ⟨10, _⟩ => ⟨S_, .f32⟩
  | .hbm, ⟨11, _⟩ => ⟨S16384x32, .f32⟩
  | .hbm, ⟨12, _⟩ => ⟨S16384x32, .f32⟩
  | .hbm, ⟨13, _⟩ => ⟨S16384x32, .f32⟩
  | .hbm, ⟨14, _⟩ => ⟨S_, .f32⟩
  | .hbm, ⟨15, _⟩ => ⟨S_, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S_, .f32⟩
  | .hbm, ⟨20, _⟩ => ⟨S16384x32, .f32⟩
  | .hbm, ⟨21, _⟩ => ⟨S16384x32, .f32⟩
  | .hbm, ⟨22, _⟩ => ⟨S_, .f32⟩
  | .hbm, ⟨23, _⟩ => ⟨S16384x32, .f32⟩
  | .hbm, ⟨24, _⟩ => ⟨S16384x32, .f32⟩
  | .hbm, ⟨25, _⟩ => ⟨S_, .f32⟩
  | .hbm, ⟨26, _⟩ => ⟨S16384x32, .f32⟩
  | .hbm, ⟨27, _⟩ => ⟨S16384x32, .i1⟩
  | .hbm, ⟨28, _⟩ => ⟨S_, .f32⟩
  | .hbm, ⟨29, _⟩ => ⟨S_, .f32⟩
  | .hbm, ⟨30, _⟩ => ⟨S16384x32, .f32⟩
  | .hbm, ⟨31, _⟩ => ⟨S16384x32, .f32⟩
  | .hbm, ⟨32, _⟩ => ⟨S_, .f32⟩
  | .hbm, ⟨33, _⟩ => ⟨S16384x32, .f32⟩
  | .hbm, ⟨34, _⟩ => ⟨S16384x32, .f32⟩
  | .hbm, ⟨35, _⟩ => ⟨S16384x32, .f32⟩
  | .hbm, ⟨36, _⟩ => ⟨S_, .f32⟩
  | .hbm, ⟨37, _⟩ => ⟨S16384x32, .f32⟩
  | .hbm, ⟨38, _⟩ => ⟨S16384x32, .f32⟩
  | .hbm, ⟨39, _⟩ => ⟨S16384x32x128, .f32⟩
  | .hbm, ⟨40, _⟩ => ⟨S16384x4096, .f32⟩
  | .hbm, ⟨41, _⟩ => ⟨S16384x32, .bf16⟩
  | .hbm, ⟨42, _⟩ => ⟨S16384x32x128, .bf16⟩
  | .hbm, ⟨43, _⟩ => ⟨S16384x4096, .bf16⟩
  | .hbm, ⟨44, _⟩ => ⟨S17x128x32, .f32⟩
  | .hbm, ⟨45, _⟩ => ⟨S2176x32, .f32⟩
  | .hbm, ⟨46, _⟩ => ⟨S2176x32x128, .f32⟩
  | .hbm, ⟨47, _⟩ => ⟨S2176x4096, .f32⟩
  | .hbm, ⟨48, _⟩ => ⟨S2112x4096, .f32⟩
  | .hbm, ⟨49, _⟩ => ⟨S2112x4096, .bf16⟩
  | .hbm, ⟨50, _⟩ => ⟨S16384x4096, .bf16⟩
  | .hbm, ⟨51, _⟩ => ⟨S1x1536, .bf16⟩
  | .hbm, ⟨52, _⟩ => ⟨S1x512, .bf16⟩
  | .hbm, ⟨53, _⟩ => ⟨S16384x1536, .bf16⟩
  | .hbm, ⟨54, _⟩ => ⟨S16384x512, .bf16⟩
  | .hbm, ⟨55, _⟩ => ⟨S16384x64, .bf16⟩
  | .hbm, ⟨56, _⟩ => ⟨S16384x4096, .fp8e4m3⟩
  | .local _ .vmem, ⟨0, _⟩ => ⟨S16384x4096, .bf16⟩
  | .local _ .vmem, ⟨1, _⟩ => ⟨S2112x4096, .fp8e4m3⟩
  | .local _ .vmem, ⟨2, _⟩ => ⟨S16384x4096, .f32⟩
  | .local _ .vmem, ⟨3, _⟩ => ⟨S16384x4096, .bf16⟩
  | .local _ .vmem, ⟨4, _⟩ => ⟨S2112x4096, .bf16⟩
  | .local _ .vmem, ⟨5, _⟩ => ⟨S1x1536, .bf16⟩
  | .local _ .vmem, ⟨6, _⟩ => ⟨S1x512, .bf16⟩
  | .local _ .vmem, ⟨7, _⟩ => ⟨S16384x1536, .bf16⟩
  | .local _ .vmem, ⟨8, _⟩ => ⟨S16384x512, .bf16⟩
  | .local _ .vmem, ⟨9, _⟩ => ⟨S16384x64, .bf16⟩
  | .local _ .vmem, ⟨10, _⟩ => ⟨S16384x4096, .fp8e4m3⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2112x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Mla.Loops.lean ====
/- The weights' loop of the first grid point by its invariant: the pieces one trip stores, and those of the trips before. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_mla_down_proj` -/

/-- The class of invariants of `k0_part5`'s counted loop `k0_t1_loop` (`scf.for %arg19 = %c0_i32_5
   to %11 step %c1_i32 : i32 {`), trip `k0_t1`, carrying `Unit`, region `Gen.k0_t1_body`.
   Classifier: AFFINE — every store at a `Rect.unit` whose offsets are a stated closed form of the
   trips, nothing carried, no transfer or conditional inside: the invariant is the pieces of the
   trips before `k`. The region loads back what it stores into
   `arg11`, each load's value unused (a slab read before a store into it): the pieces do not depend
   on what the memref held. One trip calls the parts `k0_part1`, `k0_part2`, `k0_part3`, `k0_part4`.
   Per trip it STORES through arg11 at (k0_off3 k0_t1); arg11 at (k0_off6 k0_t1); arg11 at (k0_off9
   k0_t1); arg11 at (k0_off12 k0_t1); arg11 at (k0_off15 k0_t1); arg11 at (k0_off18 k0_t1); arg11 at
   (k0_off21 k0_t1); arg11 at (k0_off24 k0_t1); arg11 at (k0_off27 k0_t1); arg11 at (k0_off30
   k0_t1); arg11 at (k0_off33 k0_t1); arg11 at (k0_off36 k0_t1); and 5 more. It LOADS through arg1
   at (k0_off1 k0_t1); arg3 at (k0_off2 k0_t1); arg11 at (k0_off3 k0_t1); arg1 at (k0_off4 k0_t1);
   arg3 at (k0_off5 k0_t1); arg11 at (k0_off6 k0_t1); arg1 at (k0_off7 k0_t1); arg3 at (k0_off8
   k0_t1); arg11 at (k0_off9 k0_t1); arg1 at (k0_off10 k0_t1); arg3 at (k0_off11 k0_t1); arg11 at
   (k0_off12 k0_t1); and more. GENERATED below: `Gen.loopInv_k0_t1` (`@[sl_loop]`), at the frame
   kit's algebra — a run at that algebra (the generated frame's, or a hand proof's over `MT nD τ sig
   Unit (Elt F) ℕ (UR sig nD τ) ℕ`) goes through the loop with nothing more to state; a proof at
   another algebra instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1)

/-! ### `k0_t1_loop`: the generated invariant (classifier: affine) -/

/-- One trip's resources: what the region reads (arg1, arg3) at its contents, what it writes (arg11,
   arg12) at any. -/
abbrev Trip_k0_t1 (c : Dev nD) (arg1 : Memref sig .tc .smem S17x32 .f32) (arg3 : Memref sig .tc .vmem S2112x4096 .fp8e4m3) (arg11 : Memref sig .tc .vmem S4096x2048 .bf16) (arg12 : Memref sig .tc .vmem S64x4096 .bf16) (X_arg1 : BufTy.Contents (Elt F) arg1.view.ty) (X_arg3 : BufTy.Contents (Elt F) arg3.view.ty) (f_arg11 : BufTy.Contents (Elt F) arg11.view.ty) (f_arg12 : BufTy.Contents (Elt F) arg12.view.ty) : sProp 𝕄G :=
  iprop((arg1.view.loc (c : Thread nD τ) ↦[arg1.view.set]{fullShare} X_arg1) ∗ (arg3.view.loc (c : Thread nD τ) ↦[arg3.view.set]{fullShare} X_arg3) ∗ (arg11.view.loc (c : Thread nD τ) ↦[arg11.view.set]{fullShare} f_arg11) ∗ (arg12.view.loc (c : Thread nD τ) ↦[arg12.view.set]{fullShare} f_arg12))

/-- ONE TRIP of `k0_t1_loop` at a symbolic `k`, run by `sl_exec` (its rectangles' offsets closed
   forms of `k`, their geometry linear arithmetic): the pieces it writes into arg11, arg12 are the
   run's own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) (k : Fin k0_t1_loop.trips) :
    Σ' (L_arg11 : List (View.Piece (Elt F) S4096x2048 .bf16)) , { L_arg12 : List (View.Piece (Elt F) S64x4096 .bf16) // ∀ (E : Set ℕ) (f_arg11 : BufTy.Contents (Elt F) arg11.view.ty) (f_arg12 : BufTy.Contents (Elt F) arg12.view.ty),
      Trip_k0_t1 (F := F) c arg1 arg3 arg11 arg12 X_arg1 X_arg3 f_arg11 f_arg12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 k PUnit.unit)
          (fun _ => Trip_k0_t1 (F := F) c arg1 arg3 arg11 arg12 X_arg1 X_arg3 (arg11.view.writes (Elt F) f_arg11 L_arg11) (arg12.view.writes (Elt F) f_arg12 L_arg12)) } := by
  have hk : k.val < 32 := Nat.lt_of_lt_of_le k.isLt k0_t1_abs.2.1
  refine ⟨?_, ?_, fun E f_arg11 f_arg12 => ?run⟩
  case run =>
    unfold k0_t1_body
    iintro ⟨HR_arg1, HR_arg3, HW_arg11, HW_arg12⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) (k : Fin k0_t1_loop.trips) : List (View.Piece (Elt F) S4096x2048 .bf16) × List (View.Piece (Elt F) S64x4096 .bf16) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) (k : ℕ) (prev : List (View.Piece (Elt F) S4096x2048 .bf16) × List (View.Piece (Elt F) S64x4096 .bf16)) : List (View.Piece (Elt F) S4096x2048 .bf16) × List (View.Piece (Elt F) S64x4096 .bf16) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 ⟨k, h⟩).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 ⟨k, h⟩).2 ++ prev.2)
  else prev

/-- The pieces of the trips before `k` (last first), per written memref. -/
def pb_k0_t1 (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) : ℕ → List (View.Piece (Elt F) S4096x2048 .bf16) × List (View.Piece (Elt F) S64x4096 .bf16)
  | 0 => ([], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k)

theorem pb_k0_t1_succ (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k.val).2) := by
  rw [pb_k0_t1.eq_2]; unfold pb_k0_t1Step; exact dif_pos k.isLt

/-- THE INVARIANT before trip `k`: arg1, arg3 read at `X_·`; arg11, arg12 holding the pieces of the
   trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) (G_arg11 : BufTy.Contents (Elt F) arg11.view.ty) (G_arg12 : BufTy.Contents (Elt F) arg12.view.ty) (k : ℕ) (_u : PUnit) : sProp 𝕄G :=
  iprop((arg1.view.loc (c : Thread nD τ) ↦[arg1.view.set]{fullShare} X_arg1) ∗ (arg3.view.loc (c : Thread nD τ) ↦[arg3.view.set]{fullShare} X_arg3) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty) (G_arg11 : BufTy.Contents (Elt F) arg11.view.ty) (G_arg12 : BufTy.Contents (Elt F) arg12.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 G_arg11 G_arg12
  step k acc := by
    iintro ⟨HR_arg1, HR_arg3, ⟨%f_arg11, HW_arg11, %h_arg11⟩, ⟨%f_arg12, HW_arg12, %h_arg12⟩⟩
    iapply (wp_wand_r Idealize.ShloMosaic.frame (wpE (defs₀ (F := F)) 𝒱 (c : Thread nD τ) bd) E)
    isplitl [HR_arg1 HR_arg3 HW_arg11 HW_arg12]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).2.2 E f_arg11 f_arg12)
      isplitl [HR_arg1]; · iexact HR_arg1
      isplitl [HR_arg3]; · iexact HR_arg3
      isplitl [HW_arg11]; · iexact HW_arg11
      iexact HW_arg12
    · iintro %_ ⟨HR_arg1, HR_arg3, HW_arg11, HW_arg12⟩
      isplitl [HR_arg1]; · iexact HR_arg1
      isplitl [HR_arg3]; · iexact HR_arg3
      rw [pb_k0_t1_succ]
      isplitl [HW_arg11]
      · iexists _; isplitl [HW_arg11]; · iexact HW_arg11
        ipureintro; rw [h_arg11, ← View.writes_append]
      iexists _; isplitl [HW_arg12]; · iexact HW_arg12
      ipureintro; rw [h_arg12, ← View.writes_append]

end Cert.KernelIdeal.Gen

end
-- ==== Proof.Mla.Pre.lean ====
/- What the kernel's runs share: the branch conditions over the points, the idle points, the staging and scratch memrefs. -/
module

public import proofs.«01_k».proof.Proof.Gen.KernelIdeal.Frame
public import proofs.«01_k».proof.Proof.Gen.KernelIdeal.Skeleton
public import proofs.«01_k».proof.Proof.Mla.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 31 — decided over the grid. -/
theorem hcond0_1 : ∀ t : Fin cfg0.N, cond0_1 (grid0.coords t) ↔ (1 ≤ t.val % 33 ∧ t.val % 33 ≤ 31) :=
  (by decide +kernel : ∀ t : Fin grid0.N, cond0_1 (grid0.coords t) ↔ (1 ≤ t.val % 33 ∧ t.val % 33 ≤ 31))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- The latent and key windows are idle at the first point only. -/
theorem idleAt0_out (w : Fin 10) (hw : w = 5 ∨ w = 6 ∨ w = 7) : ∀ t : Fin cfg0.N, cfg0.idle w (grid0.coords t) = decide (t.val = 0) := by
  rcases hw with rfl | rfl | rfl <;>
    exact (by decide +kernel : ∀ t : Fin grid0.N, cfg0.idle 5 (grid0.coords t) = decide (t.val = 0))
/-- The codes' and scales' windows are idle at the last point only. -/
theorem idleAt0_codes (w : Fin 10) (hw : w = 8 ∨ w = 9) : ∀ t : Fin cfg0.N, cfg0.idle w (grid0.coords t) = decide (t.val = 32) := by
  rcases hw with rfl | rfl <;>
    exact (by decide +kernel : ∀ t : Fin grid0.N, cfg0.idle 8 (grid0.coords t) = decide (t.val = 32))
/-! ## The kernel body on any staging memrefs: a subtype the run finds -/

/-- Each window's current staging memref at point `t`, spelled as the pipeline passes it (`bodyAt0`), and its wholeness. -/
abbrev ms0_0 (t : Fin cfg0.N) : Memref sig .tc .smem S17x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2112x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x4096 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x32 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4096x2048 .bf16 := Memref.whole cc0_scratch0
abbrev scM0_1 : Memref sig .tc .vmem S64x4096 .bf16 := Memref.whole cc0_scratch1
abbrev scM0_2 : Memref sig .tc .vmem S256x4096 .bf16 := Memref.whole cc0_scratch2
abbrev scM0_3 : Memref sig .tc .vmem S256x4096 .bf16 := Memref.whole cc0_scratch3
abbrev scM0_4 : Memref sig .tc .vmem S256x2048 .f32 := Memref.whole cc0_scratch4
abbrev scM0_5 : Memref sig .tc .vmem S256x2048 .f32 := Memref.whole cc0_scratch5
abbrev scM0_6 : Memref sig .tc .vmem S64x256 .f32 := Memref.whole cc0_scratch6
abbrev scM0_7 : Memref sig .tc .vmem S64x256 .f32 := Memref.whole cc0_scratch7
/-- The scratch `arg11` the kernel carries between points, as a view: what it holds is stated through it. -/
abbrev VS0_0 : View sig .tc .vmem S4096x2048 .bf16 := scM0_0.view
/-- The scratch `arg12` the kernel carries between points, as a view: what it holds is stated through it. -/
abbrev VS0_1 : View sig .tc .vmem S64x4096 .bf16 := scM0_1.view
/-- The scratch `arg14` the kernel carries between points, as a view: what it holds is stated through it. -/
abbrev VS0_3 : View sig .tc .vmem S256x4096 .bf16 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.Mla.RunA.lean ====
/- The whole body run in case A of the grid. -/
module

public import proofs.«01_k».proof.Proof.Mla.Pre

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- The body in case A: on whole staging memrefs at the stated contents it runs to its end, leaving in each named buffer
    the pieces the run finds (last first), the inputs as they were, the rest at anything. -/
noncomputable def kernelRun0_A (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : cond0_0 i) (hc1 : ¬cond0_1 i) (hc2 : ¬cond0_2 i)
    (x0 : Vec F S17x32 .f32) (x1 : Vec F S512x4096 .bf16) (x2 : Vec F S2112x4096 .fp8e4m3) (x3 : Vec F S1x1536 .bf16) (x4 : Vec F S1x512 .bf16) (xs0 : Vec F S4096x2048 .bf16) (xs1 : Vec F S64x4096 .bf16) (xs2 : Vec F S256x4096 .bf16) (xs3 : Vec F S256x4096 .bf16) (xs4 : Vec F S256x2048 .f32) (xs5 : Vec F S256x2048 .f32) (xs6 : Vec F S64x256 .f32) (xs7 : Vec F S64x256 .f32) :
    Σ' (L8 : List (View.Piece (Elt F) S512x4096 .fp8e4m3)), Σ' (L9 : List (View.Piece (Elt F) S512x32 .f32)), Σ' (LS0 : List (View.Piece (Elt F) S4096x2048 .bf16)), Σ' (LS1 : List (View.Piece (Elt F) S64x4096 .bf16)), Σ' (LS3 : List (View.Piece (Elt F) S256x4096 .bf16)), Σ' (LS4 : List (View.Piece (Elt F) S256x2048 .f32)), { LS6 : List (View.Piece (Elt F) S64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ owns (c : Thread nD τ) arg17 fullShare xs6 ∗ owns (c : Thread nD τ) arg18 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4) ∗ (∃ d, owns (c : Thread nD τ) arg16 fullShare d) ∗ (∃ f, arg17.view.loc (c : Thread nD τ) ↦[arg17.view.set]{fullShare} arg17.view.writes (Elt F) f LS6) ∗ (∃ d, owns (c : Thread nD τ) arg18 fullShare d)) -∗ K ⟨⟩))
          ⊢ wp frame (wpE (defs₀ (F := F)) Variants.none c none) E (cc0_mla_down_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_mla_down_proj_eq_skeleton]; unfold cc0_mla_down_proj_skel
    simp only [k0_part119_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part120_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton]
    unfold owns
    iintro ⟨⟨%f0, %hf0, H0⟩, ⟨%f1, %hf1, H1⟩, ⟨%f2, %hf2, H2⟩, ⟨%f3, %hf3, H3⟩, ⟨%f4, %hf4, H4⟩, ⟨%df5, %f5, -, H5⟩, ⟨%df6, %f6, -, H6⟩, ⟨%df7, %f7, -, H7⟩, ⟨%df8, %f8, -, H8⟩, ⟨%df9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5; obtain rfl := harg17.eq_unread hfs6; obtain rfl := harg18.eq_unread hfs7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _; iexact H8
    isplitl [H9]
    · iexists _; iexact H9
    isplitl [HS0]
    · iexists _; iexact HS0
    isplitl [HS1]
    · iexists _; iexact HS1
    isplitl [HS2]
    · iexists _, _; isplitr; swap; · iexact HS2
      ipureintro; rfl
    isplitl [HS3]
    · iexists _; iexact HS3
    isplitl [HS4]
    · iexists _; iexact HS4
    isplitl [HS5]
    · iexists _, _; isplitr; swap; · iexact HS5
      ipureintro; rfl
    isplitl [HS6]
    · iexists _; iexact HS6
    iexists _, _; isplitr; swap; · iexact HS7
    ipureintro; rfl

end Cert.KernelIdeal.Gen

end
-- ==== Proof.Mla.RunB.lean ====
/- The whole body run in case B of the grid. -/
module

public import proofs.«01_k».proof.Proof.Mla.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- The body in case B: on whole staging memrefs at the stated contents it runs to its end, leaving in each named buffer
    the pieces the run finds (last first), the inputs as they were, the rest at anything. -/
noncomputable def kernelRun0_B (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : ¬cond0_0 i) (hc1 : cond0_1 i) (hc2 : ¬cond0_2 i)
    (x0 : Vec F S17x32 .f32) (x1 : Vec F S512x4096 .bf16) (x2 : Vec F S2112x4096 .fp8e4m3) (x3 : Vec F S1x1536 .bf16) (x4 : Vec F S1x512 .bf16) (xs0 : Vec F S4096x2048 .bf16) (xs1 : Vec F S64x4096 .bf16) (xs2 : Vec F S256x4096 .bf16) (xs3 : Vec F S256x4096 .bf16) (xs4 : Vec F S256x2048 .f32) (xs5 : Vec F S256x2048 .f32) (xs6 : Vec F S64x256 .f32) (xs7 : Vec F S64x256 .f32) :
    Σ' (L5 : List (View.Piece (Elt F) S512x1536 .bf16)), Σ' (L6 : List (View.Piece (Elt F) S512x512 .bf16)), Σ' (L7 : List (View.Piece (Elt F) S512x64 .bf16)), Σ' (L8 : List (View.Piece (Elt F) S512x4096 .fp8e4m3)), Σ' (L9 : List (View.Piece (Elt F) S512x32 .f32)), Σ' (LS3 : List (View.Piece (Elt F) S256x4096 .bf16)), Σ' (LS4 : List (View.Piece (Elt F) S256x2048 .f32)), { LS6 : List (View.Piece (Elt F) S64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ owns (c : Thread nD τ) arg17 fullShare xs6 ∗ owns (c : Thread nD τ) arg18 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ owns (c : Thread nD τ) arg12 fullShare xs1 ∗ (∃ d, owns (c : Thread nD τ) arg13 fullShare d) ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LS4) ∗ (∃ d, owns (c : Thread nD τ) arg16 fullShare d) ∗ (∃ f, arg17.view.loc (c : Thread nD τ) ↦[arg17.view.set]{fullShare} arg17.view.writes (Elt F) f LS6) ∗ (∃ d, owns (c : Thread nD τ) arg18 fullShare d)) -∗ K ⟨⟩))
          ⊢ wp frame (wpE (defs₀ (F := F)) Variants.none c none) E (cc0_mla_down_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, fun E K => ?run⟩
  case run =>
    simp only [cc0_mla_down_proj_eq_skeleton]; unfold cc0_mla_down_proj_skel
    simp only [k0_part238_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part239_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton]
    unfold owns
    iintro ⟨⟨%f0, %hf0, H0⟩, ⟨%f1, %hf1, H1⟩, ⟨%f2, %hf2, H2⟩, ⟨%f3, %hf3, H3⟩, ⟨%f4, %hf4, H4⟩, ⟨%df5, %f5, -, H5⟩, ⟨%df6, %f6, -, H6⟩, ⟨%df7, %f7, -, H7⟩, ⟨%df8, %f8, -, H8⟩, ⟨%df9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5; obtain rfl := harg17.eq_unread hfs6; obtain rfl := harg18.eq_unread hfs7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [HS0]
    · iexists _; isplitr; · ipureintro; exact harg11.read_unread _
      iexact HS0
    isplitl [HS1]
    · iexists _; isplitr; · ipureintro; exact harg12.read_unread _
      iexact HS1
    isplitl [HS2]
    · iexists _, _; isplitr; swap; · iexact HS2
      ipureintro; rfl
    isplitl [HS3]
    · iexists _; iexact HS3
    isplitl [HS4]
    · iexists _; iexact HS4
    isplitl [HS5]
    · iexists _, _; isplitr; swap; · iexact HS5
      ipureintro; rfl
    isplitl [HS6]
    · iexists _; iexact HS6
    iexists _, _; isplitr; swap; · iexact HS7
    ipureintro; rfl

end Cert.KernelIdeal.Gen

end
-- ==== Proof.Mla.RunC.lean ====
/- The whole body run in case C of the grid. -/
module

public import proofs.«01_k».proof.Proof.Mla.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- The body in case C: on whole staging memrefs at the stated contents it runs to its end, leaving in each named buffer
    the pieces the run finds (last first), the inputs as they were, the rest at anything. -/
noncomputable def kernelRun0_C (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : ¬cond0_0 i) (hc1 : ¬cond0_1 i) (hc2 : cond0_2 i)
    (x0 : Vec F S17x32 .f32) (x1 : Vec F S512x4096 .bf16) (x2 : Vec F S2112x4096 .fp8e4m3) (x3 : Vec F S1x1536 .bf16) (x4 : Vec F S1x512 .bf16) (x8 : Vec F S512x4096 .fp8e4m3) (x9 : Vec F S512x32 .f32) (xs0 : Vec F S4096x2048 .bf16) (xs1 : Vec F S64x4096 .bf16) (xs2 : Vec F S256x4096 .bf16) (xs3 : Vec F S256x4096 .bf16) (xs4 : Vec F S256x2048 .f32) (xs5 : Vec F S256x2048 .f32) (xs6 : Vec F S64x256 .f32) (xs7 : Vec F S64x256 .f32) :
    Σ' (L5 : List (View.Piece (Elt F) S512x1536 .bf16)), Σ' (L6 : List (View.Piece (Elt F) S512x512 .bf16)), { L7 : List (View.Piece (Elt F) S512x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x8 ∗ owns (c : Thread nD τ) arg10 fullShare x9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ owns (c : Thread nD τ) arg17 fullShare xs6 ∗ owns (c : Thread nD τ) arg18 fullShare xs7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare x8 ∗ owns (c : Thread nD τ) arg10 fullShare x9 ∗ owns (c : Thread nD τ) arg11 fullShare xs0 ∗ owns (c : Thread nD τ) arg12 fullShare xs1 ∗ (∃ d, owns (c : Thread nD τ) arg13 fullShare d) ∗ owns (c : Thread nD τ) arg14 fullShare xs3 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_mla_down_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_mla_down_proj_eq_skeleton]; unfold cc0_mla_down_proj_skel
    simp only [k0_part240_eq_skeleton, k0_part241_eq_skeleton, k0_part242_eq_skeleton]
    unfold owns
    iintro ⟨⟨%f0, %hf0, H0⟩, ⟨%f1, %hf1, H1⟩, ⟨%f2, %hf2, H2⟩, ⟨%f3, %hf3, H3⟩, ⟨%f4, %hf4, H4⟩, ⟨%df5, %f5, -, H5⟩, ⟨%df6, %f6, -, H6⟩, ⟨%df7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9; obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5; obtain rfl := harg17.eq_unread hfs6; obtain rfl := harg18.eq_unread hfs7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [H6]
    · iexists _; iexact H6
    isplitl [H7]
    · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    isplitl [HS2]
    · iexists _, _; isplitr; swap; · iexact HS2
      ipureintro; rfl
    isplitl [HS3]
    · iexists _; isplitr; · ipureintro; exact harg14.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.Mla.Ladder.lean ====
/-
  The power-of-two scale of one group of 128 numbers: the exponent found one bit after the other, the scale and its
  inverse built from it as bf16 bit patterns, against the exponent of `frexp` stated with the logarithm.
-/
module

public import Idealize.ShloMosaic.PureOps
public import Idealize.ShloMosaic.PureOps.Ideal
public import Idealize.ShloMosaic.Lib.BitcastPair

@[expose] public section

noncomputable section

namespace Cert.Mla

open Idealize.ShloMosaic

/-- The bit pattern of the threshold of exponent field `k`: 1.75 times the power of two one field below. -/
def thrW (k : ℕ) : BitVec 16 := BitVec.ofNat 16 (128 * k) - 32#16

/-- The threshold of exponent field `k`. -/
def thr (k : ℕ) : EReal := Ideal.ieee 8 7 (thrW k)

theorem thrW_toNat (k : ℕ) (h1 : 1 ≤ k) (h2 : k ≤ 255) : (thrW k).toNat = 128 * k - 32 := by
  unfold thrW
  rw [BitVec.toNat_sub_of_le]
  · simp; omega
  · rw [BitVec.le_def]; simp; omega

/-- A bf16 pattern with sign bit clear and a normal exponent, by its value as a number. -/
theorem ieee_normal (b : BitVec 16) (E T : ℕ) (hb : b.toNat = 128 * E + T) (hT : T < 128) (h1 : 1 ≤ E) (h2 : E ≤ 254) :
    Ideal.ieee 8 7 b = (((128 + T : ℕ) : ℝ) * (2 : ℝ) ^ ((E : ℤ) - 134) : ℝ) := by
  have hs : (b.extractLsb' (8 + 7) 1 == 1#1) = false := by
    rw [beq_eq_false_iff_ne]; intro h
    have := congrArg BitVec.toNat h
    simp [BitVec.extractLsb'_toNat, Nat.shiftRight_eq_div_pow] at this
    omega
  have hE : (b.extractLsb' 7 8).toNat = E := by
    simp [BitVec.extractLsb'_toNat, Nat.shiftRight_eq_div_pow]; omega
  have hF : (b.extractLsb' 0 7).toNat = T := by
    simp [BitVec.extractLsb'_toNat]; omega
  unfold Ideal.ieee
  simp only [hs, hE, hF]
  rw [if_neg (by norm_num; omega), if_neg (by omega)]
  norm_num
  rw [show ((E : ℤ) - 127 - 7) = (E : ℤ) - 134 by ring]

theorem thr_eq (k : ℕ) (h1 : 2 ≤ k) (h2 : k ≤ 255) : thr k = ((224 : ℝ) * (2 : ℝ) ^ ((k : ℤ) - 135) : ℝ) := by
  unfold thr
  rw [ieee_normal (thrW k) (k - 1) 96 (by rw [thrW_toNat k (by omega) h2]; omega) (by omega) (by omega) (by omega)]
  push_cast [Nat.cast_sub (show 1 ≤ k by omega)]
  rw [show ((k : ℤ) - 1 - 134) = (k : ℤ) - 135 by ring]

theorem thr_mono {k l : ℕ} (h1 : 2 ≤ k) (hkl : k ≤ l) (h2 : l ≤ 255) : thr k ≤ thr l := by
  rw [thr_eq k h1 (by omega), thr_eq l (by omega) h2]
  refine EReal.coe_le_coe_iff.2 (mul_le_mul_of_nonneg_left ?_ (by norm_num))
  exact zpow_le_zpow_right₀ (by norm_num) (by omega)

theorem thr_one_le : thr 1 ≤ thr 2 := by
  have hs : thr 1 = ((96 : ℝ) * (2 : ℝ) ^ (-133 : ℤ) : ℝ) := by
    unfold thr Ideal.ieee
    have e1 : ((thrW 1).extractLsb' (8 + 7) 1 == 1#1) = false := by decide
    have e2 : ((thrW 1).extractLsb' 7 8).toNat = 0 := by decide
    have e3 : ((thrW 1).extractLsb' 0 7).toNat = 96 := by decide
    simp only [e1, e2, e3]
    norm_num
  rw [hs, thr_eq 2 (by omega) (by omega)]
  refine EReal.coe_le_coe_iff.2 ?_
  norm_num

/-- One step of the search for the exponent field. -/
def rung (a : EReal) (u c : BitVec 16) : BitVec 16 :=
  if a < Ideal.ieee 8 7 (u + c) then u else u + c

theorem rung_eq (a : EReal) (n d : ℕ) :
    rung a (thrW n) (BitVec.ofNat 16 (128 * d)) = thrW (if a < thr (n + d) then n else n + d) := by
  have e : thrW n + BitVec.ofNat 16 (128 * d) = thrW (n + d) := by
    unfold thrW
    rw [Nat.mul_add, BitVec.ofNat_add, BitVec.sub_eq_add_neg, BitVec.sub_eq_add_neg, BitVec.add_assoc, BitVec.add_assoc,
      BitVec.add_comm (-_)]
  unfold rung
  rw [e]
  unfold thr
  split <;> rfl

/-- What the search keeps: at or below the number, and above it `d` fields further. -/
def Found (a : EReal) (n d : ℕ) : Prop := n + d ≤ 256 ∧ (n = 0 ∨ thr n ≤ a) ∧ (n + d = 256 ∨ a < thr (n + d))

theorem Found.step {a : EReal} {n d : ℕ} (h : Found a n (d + d)) :
    Found a (if a < thr (n + d) then n else n + d) d := by
  obtain ⟨h0, h1, h2⟩ := h
  split
  · rename_i hlt
    exact ⟨by omega, h1, Or.inr hlt⟩
  · rename_i hge
    refine ⟨by omega, Or.inr (not_lt.1 hge), ?_⟩
    rw [Nat.add_assoc]; exact h2

/-- The search for the exponent field, from the field's highest bit down. -/
def search (a : EReal) : BitVec 16 :=
  rung a (rung a (rung a (rung a (rung a (rung a (rung a (rung a 65504#16 16384#16) 8192#16) 4096#16) 2048#16) 1024#16)
    512#16) 256#16) 128#16

theorem search_spec (a : EReal) (ha : thr 10 ≤ a) :
    ∃ k : ℕ, 10 ≤ k ∧ k ≤ 255 ∧ search a = thrW k ∧ thr k ≤ a ∧ (k = 255 ∨ k ≤ 254 ∧ a < thr (k + 1)) := by
  have f0 : Found a 0 (128 + 128) := ⟨by omega, Or.inl rfl, Or.inl rfl⟩
  have e0 : (65504#16 : BitVec 16) = thrW 0 := by decide
  unfold search
  rw [e0, show (16384#16 : BitVec 16) = BitVec.ofNat 16 (128 * 128) from rfl, rung_eq]
  have f1 : Found a _ (64 + 64) := f0.step
  rw [show (8192#16 : BitVec 16) = BitVec.ofNat 16 (128 * 64) from rfl, rung_eq]
  have f2 : Found a _ (32 + 32) := f1.step
  rw [show (4096#16 : BitVec 16) = BitVec.ofNat 16 (128 * 32) from rfl, rung_eq]
  have f3 : Found a _ (16 + 16) := f2.step
  rw [show (2048#16 : BitVec 16) = BitVec.ofNat 16 (128 * 16) from rfl, rung_eq]
  have f4 : Found a _ (8 + 8) := f3.step
  rw [show (1024#16 : BitVec 16) = BitVec.ofNat 16 (128 * 8) from rfl, rung_eq]
  have f5 : Found a _ (4 + 4) := f4.step
  rw [show (512#16 : BitVec 16) = BitVec.ofNat 16 (128 * 4) from rfl, rung_eq]
  have f6 : Found a _ (2 + 2) := f5.step
  rw [show (256#16 : BitVec 16) = BitVec.ofNat 16 (128 * 2) from rfl, rung_eq]
  have f7 : Found a _ (1 + 1) := f6.step
  rw [show (128#16 : BitVec 16) = BitVec.ofNat 16 (128 * 1) from rfl, rung_eq]
  have f8 := f7.step
  generalize (if a < thr (_ + 1) then _ else _ + 1) = k at f8 ⊢
  obtain ⟨g0, g1, g2⟩ := f8
  have hk : 10 ≤ k := by
    by_contra hc
    rcases g2 with g2 | g2
    · omega
    · refine absurd g2 (not_lt.2 (le_trans ?_ ha))
      rcases Nat.eq_zero_or_pos k with rfl | hp
      · exact thr_one_le.trans (thr_mono (by omega) (by omega) (by omega))
      · exact thr_mono (by omega) (by omega) (by omega)
  refine ⟨k, hk, by omega, rfl, ?_, ?_⟩
  · rcases g1 with g1 | g1
    · omega
    · exact g1
  · rcases g2 with g2 | g2
    · exact Or.inl (by omega)
    · by_cases hk' : k = 255
      · exact Or.inl hk'
      · exact Or.inr ⟨by omega, g2⟩

/-! ## The scale and its inverse, as bit patterns -/

/-- The scale's pattern holds two to the power of the found field less 135. -/
theorem scaleW_eq (k : ℕ) (h1 : 10 ≤ k) (h2 : k ≤ 255) :
    Ideal.ieee 8 7 (BitVec.ofNat 16 (128 * k) - 1024#16) = ((2 : ℝ) ^ ((k : ℤ) - 135) : ℝ) := by
  rw [ieee_normal _ (k - 8) 0 (by
    rw [BitVec.toNat_sub_of_le]
    · simp; omega
    · rw [BitVec.le_def]; simp; omega) (by omega) (by omega) (by omega)]
  push_cast [Nat.cast_sub (show 8 ≤ k by omega)]
  rw [show ((k : ℤ) - 135) = ((k : ℤ) - 8 - 134) + 7 by ring, zpow_add₀ (by norm_num)]
  norm_num
  rw [← EReal.coe_mul]
  exact congrArg _ (by ring)

/-- The inverse's pattern holds two to the power of 135 less the found field. -/
theorem invW_eq (k : ℕ) (h1 : 10 ≤ k) (h2 : k ≤ 255) :
    Ideal.ieee 8 7 (33536#16 - BitVec.ofNat 16 (128 * k)) = ((2 : ℝ) ^ (135 - (k : ℤ)) : ℝ) := by
  rw [ieee_normal _ (262 - k) 0 (by
    rw [BitVec.toNat_sub_of_le]
    · simp; omega
    · rw [BitVec.le_def]; simp; omega) (by omega) (by omega) (by omega)]
  push_cast [Nat.cast_sub (show k ≤ 262 by omega)]
  rw [show (135 - (k : ℤ)) = (262 - (k : ℤ) - 134) + 7 by ring, zpow_add₀ (by norm_num)]
  norm_num
  rw [← EReal.coe_mul]
  exact congrArg _ (by ring)

/-! ## The exponent of `frexp` -/

/-- The exponent of the scale of a group of magnitude `a`, as the reference states it. -/
def refExp (a : EReal) : EReal :=
  if Ideal.div a (448 : ℝ) < ((2 : ℝ) ^ (-126 : ℤ) : ℝ) then 0
  else min (Ideal.liftRound Int.floor (Ideal.div (Ideal.log (Ideal.div a (448 : ℝ))) (Ideal.log (2 : ℝ))) + (1 : ℝ)) (120 : ℝ)

theorem div448 (a : EReal) : Ideal.div a (448 : ℝ) = a * ((448 : ℝ)⁻¹ : ℝ) := by
  unfold Ideal.div
  rw [if_neg (by norm_num), EReal.coe_inv]

theorem refExp_small (a : EReal) (h : a < thr 10) : refExp a = 0 := by
  unfold refExp
  rw [if_pos]
  rw [div448]
  rw [thr_eq 10 (by omega) (by omega)] at h
  induction a with
  | bot => rw [EReal.bot_mul_coe_of_pos (by norm_num)]; exact EReal.bot_lt_coe _
  | top => exact absurd h (not_lt.2 le_top)
  | coe r =>
    rw [← EReal.coe_mul]
    have h := EReal.coe_lt_coe_iff.1 h
    refine EReal.coe_lt_coe_iff.2 ?_
    norm_num at h ⊢
    linarith

theorem refExp_found (a : EReal) (k : ℕ) (h1 : 10 ≤ k) (h2 : k ≤ 255) (h3 : thr k ≤ a) (h4 : k = 255 ∨ k ≤ 254 ∧ a < thr (k + 1)) :
    refExp a = (((k : ℤ) - 135 : ℤ) : ℝ) := by
  have hl : (0 : ℝ) < Real.log 2 := Real.log_pos (by norm_num)
  have hlog2 : Ideal.log (2 : ℝ) = ((Real.log 2 : ℝ) : EReal) := by
    rw [Ideal.log_coe, if_neg (by norm_num)]
  have hmin : thr 10 ≤ a := (thr_mono (by omega) h1 h2).trans h3
  unfold refExp
  rw [hlog2, div448]
  induction a with
  | bot => rw [thr_eq k (by omega) h2] at h3; exact absurd h3 (not_le.2 (EReal.bot_lt_coe _))
  | top =>
    have hk : k = 255 := h4.resolve_right (fun h => not_lt.2 le_top h.2)
    subst hk
    rw [EReal.top_mul_coe_of_pos (by norm_num), if_neg (not_lt.2 le_top)]
    have e1 : Ideal.log ⊤ = ⊤ := rfl
    have e2 : Ideal.div ⊤ ((Real.log 2 : ℝ) : EReal) = ⊤ := by
      unfold Ideal.div
      rw [if_neg (by exact_mod_cast hl.ne'), ← EReal.coe_inv, EReal.top_mul_coe_of_pos (inv_pos.2 hl)]
    have e3 : Ideal.liftRound Int.floor ⊤ = ⊤ := rfl
    rw [e1, e2, e3, EReal.top_add_coe, min_eq_right le_top]
    norm_num
  | coe r =>
    rw [← EReal.coe_mul]
    rw [thr_eq 10 (by omega) (by omega)] at hmin
    have hmin := EReal.coe_le_coe_iff.1 hmin
    have hv0 : (0 : ℝ) < r * (448 : ℝ)⁻¹ := by
      have : (0 : ℝ) < 224 * (2 : ℝ) ^ (((10 : ℕ) : ℤ) - 135) := by positivity
      have : 0 < r := lt_of_lt_of_le this hmin
      positivity
    rw [if_neg (by
      rw [not_lt]; refine EReal.coe_le_coe_iff.2 ?_
      norm_num at hmin ⊢
      linarith)]
    rw [Ideal.log_coe, if_neg (not_le.2 hv0)]
    have ediv : Ideal.div ((Real.log (r * (448 : ℝ)⁻¹) : ℝ) : EReal) ((Real.log 2 : ℝ) : EReal)
        = ((Real.log (r * (448 : ℝ)⁻¹) / Real.log 2 : ℝ) : EReal) := by
      unfold Ideal.div
      rw [if_neg (by exact_mod_cast hl.ne'), ← EReal.coe_inv, ← EReal.coe_mul, div_eq_mul_inv]
    rw [ediv]
    have efl : Ideal.liftRound Int.floor ((Real.log (r * (448 : ℝ)⁻¹) / Real.log 2 : ℝ) : EReal)
        = (((⌊Real.log (r * (448 : ℝ)⁻¹) / Real.log 2⌋ : ℤ) : ℝ) : EReal) := rfl
    rw [efl, ← EReal.coe_add]
    -- the floor lies at or above the found power, and below the next one unless the field is the last
    have hlow : (k : ℤ) - 136 ≤ ⌊Real.log (r * (448 : ℝ)⁻¹) / Real.log 2⌋ := by
      rw [Int.le_floor, le_div_iff₀ hl, ← Real.log_rpow (by norm_num)]
      refine Real.log_le_log (by positivity) ?_
      rw [Real.rpow_intCast]
      rw [thr_eq k (by omega) h2] at h3
      have h3 := EReal.coe_le_coe_iff.1 h3
      rw [show ((k : ℤ) - 135) = ((k : ℤ) - 136) + 1 by ring, zpow_add₀ (by norm_num)] at h3
      norm_num at h3 ⊢
      linarith
    rcases h4 with h4 | h4
    · subst h4
      rw [min_eq_right]
      · norm_num
      · refine EReal.coe_le_coe_iff.2 ?_
        have : ((((255 : ℕ) : ℤ) - 136 : ℤ) : ℝ) ≤ ((⌊Real.log (r * (448 : ℝ)⁻¹) / Real.log 2⌋ : ℤ) : ℝ) := by exact_mod_cast hlow
        norm_num at this ⊢
        linarith
    · obtain ⟨hk, h4⟩ := h4
      have hup : ⌊Real.log (r * (448 : ℝ)⁻¹) / Real.log 2⌋ < (k : ℤ) - 135 := by
        rw [Int.floor_lt, div_lt_iff₀ hl, ← Real.log_rpow (by norm_num)]
        refine Real.log_lt_log hv0 ?_
        rw [Real.rpow_intCast]
        rw [thr_eq (k + 1) (by omega) (by omega)] at h4
        have h4 := EReal.coe_lt_coe_iff.1 h4
        rw [show (((k + 1 : ℕ) : ℤ) - 135) = ((k : ℤ) - 135) + 1 by push_cast; ring, zpow_add₀ (by norm_num)] at h4
        norm_num at h4 ⊢
        linarith
      have hfl : ⌊Real.log (r * (448 : ℝ)⁻¹) / Real.log 2⌋ = (k : ℤ) - 136 := by omega
      rw [hfl, min_eq_left]
      · refine congrArg _ ?_
        push_cast; ring
      · refine EReal.coe_le_coe_iff.2 ?_
        have : (k : ℝ) ≤ 254 := by exact_mod_cast hk
        push_cast; linarith

/-! ## One group: the found field, the scale and the inverse -/

/-- The magnitude the search is run on: 256 in place of one too small for a scale. -/
def lifted (a : EReal) : EReal := if a < Ideal.ieee 8 7 0x04E0#16 then Ideal.ieee 8 7 0x4380#16 else a

/-- The pattern of the found field. -/
def fieldW (a : EReal) : BitVec 16 := search (lifted a) + 32#16

theorem thrW_add (k : ℕ) : thrW k + 32#16 = BitVec.ofNat 16 (128 * k) := by
  unfold thrW; rw [BitVec.sub_add_cancel]

theorem tiny_eq : Ideal.ieee 8 7 0x04E0#16 = thr 10 := by
  unfold thr; rw [show thrW 10 = 0x04E0#16 by decide]

theorem lift_eq : Ideal.ieee 8 7 0x4380#16 = ((256 : ℝ) : EReal) := by
  rw [ieee_normal 0x4380#16 135 0 (by decide) (by omega) (by omega) (by omega)]
  norm_num

theorem pow_two (n : ℤ) : Ideal.pow (2 : ℝ) (((n : ℤ) : ℝ) : EReal) = ((2 : ℝ) ^ n : ℝ) := by
  show ((Real.rpow 2 ((n : ℤ) : ℝ) : ℝ) : EReal) = _
  exact congrArg _ (Real.rpow_intCast 2 n)

theorem field_spec (a : EReal) :
    1024 ≤ (fieldW a).toNat ∧ (fieldW a).toNat ≤ 33536
      ∧ Ideal.ieee 8 7 (fieldW a - 1024#16) = Ideal.pow (2 : ℝ) (refExp a)
      ∧ Ideal.ieee 8 7 (33536#16 - fieldW a) = Ideal.pow (2 : ℝ) (-refExp a) := by
  have key : ∃ k : ℕ, 10 ≤ k ∧ k ≤ 255 ∧ fieldW a = BitVec.ofNat 16 (128 * k)
      ∧ refExp a = (((k : ℤ) - 135 : ℤ) : ℝ) := by
    unfold fieldW lifted
    rw [tiny_eq, lift_eq]
    by_cases h : a < thr 10
    · rw [if_pos h, refExp_small a h]
      have h256 : thr 10 ≤ ((256 : ℝ) : EReal) := by
        rw [thr_eq 10 (by omega) (by omega)]; refine EReal.coe_le_coe_iff.2 ?_; norm_num
      obtain ⟨k, h1, h2, h3, h4, h5⟩ := search_spec _ h256
      rw [h3, thrW_add]
      have hk : k = 135 := by
        rw [thr_eq k (by omega) h2] at h4
        have h4 := EReal.coe_le_coe_iff.1 h4
        have hle : k ≤ 135 := by
          by_contra hc
          have : (2 : ℝ) ^ (1 : ℤ) ≤ (2 : ℝ) ^ ((k : ℤ) - 135) := zpow_le_zpow_right₀ (by norm_num) (by omega)
          norm_num at this h4
          linarith
        rcases h5 with h5 | ⟨h6, h5⟩
        · omega
        rw [thr_eq (k + 1) (by omega) (by omega)] at h5
        have h5 := EReal.coe_lt_coe_iff.1 h5
        by_contra hc
        have : (2 : ℝ) ^ (((k + 1 : ℕ) : ℤ) - 135) ≤ (2 : ℝ) ^ (0 : ℤ) := zpow_le_zpow_right₀ (by norm_num) (by omega)
        rw [zpow_zero] at this
        linarith
      subst hk
      exact ⟨135, by omega, by omega, rfl, by norm_num⟩
    · rw [if_neg h]
      obtain ⟨k, h1, h2, h3, h4, h5⟩ := search_spec _ (not_lt.1 h)
      rw [h3, thrW_add]
      exact ⟨k, h1, h2, rfl, refExp_found a k h1 h2 h4 h5⟩
  obtain ⟨k, h1, h2, h3, h4⟩ := key
  rw [h3, h4]
  refine ⟨by simp; omega, by simp; omega, ?_, ?_⟩
  · rw [scaleW_eq k h1 h2, pow_two]
  · rw [invW_eq k h1 h2, ← EReal.coe_neg, ← Int.cast_neg, pow_two]
    norm_num

/-! ## Subtracting packed words two at a time -/

theorem top_half (a b d n : ℕ) (hb : b < 65536) (hd : d = a + 65536 * n) : (a * 65536 + b) / 65536 % 65536 = d % 65536 := by
  subst hd
  rw [show (a * 65536 + b) / 65536 = a by omega]
  omega

theorem pair_sub (hi lo c : BitVec 16) (r : ℕ) (hr : r < 2) (hc : c.toNat ≤ lo.toNat) :
    ((hi ++ lo : BitVec 32) - (c ++ c : BitVec 32)).extractLsb' (16 * r) 16 = (if r = 0 then lo else hi) - c := by
  apply BitVec.eq_of_toNat_eq
  have h1 := hi.isLt
  have h2 := lo.isLt
  have h3 := c.isLt
  have e1 : (hi ++ lo : BitVec 32).toNat = hi.toNat * 65536 + lo.toNat := by
    rw [BitVec.toNat_append, Nat.shiftLeft_eq, ← Nat.shiftLeft_eq, ← Nat.shiftLeft_add_eq_or_of_lt h2, Nat.shiftLeft_eq]
  have e2 : (c ++ c : BitVec 32).toNat = c.toNat * 65536 + c.toNat := by
    rw [BitVec.toNat_append, Nat.shiftLeft_eq, ← Nat.shiftLeft_eq, ← Nat.shiftLeft_add_eq_or_of_lt h3, Nat.shiftLeft_eq]
  rw [BitVec.extractLsb'_toNat, BitVec.toNat_sub, e1, e2, Nat.shiftRight_eq_div_pow]
  rcases (show r = 0 ∨ r = 1 by omega) with rfl | rfl
  · rw [if_pos rfl, BitVec.toNat_sub]
    simp only [Nat.mul_zero, Nat.pow_zero, Nat.div_one]
    omega
  · rw [if_neg (by omega), BitVec.toNat_sub]
    simp only [Nat.mul_one, Nat.reducePow, Nat.reduceAdd, Nat.reduceMul]
    by_cases hh : c.toNat ≤ hi.toNat
    · rw [show (4294967296 - (c.toNat * 65536 + c.toNat) + (hi.toNat * 65536 + lo.toNat)) % 4294967296
        = (hi.toNat - c.toNat) * 65536 + (lo.toNat - c.toNat) by omega]
      exact top_half _ _ _ 1 (by omega) (by omega)
    · rw [show (4294967296 - (c.toNat * 65536 + c.toNat) + (hi.toNat * 65536 + lo.toNat)) % 4294967296
        = (65536 + hi.toNat - c.toNat) * 65536 + (lo.toNat - c.toNat) by omega]
      exact top_half _ _ _ 0 (by omega) (by omega)

theorem pair_rsub (hi lo c : BitVec 16) (r : ℕ) (hr : r < 2) (hc : lo.toNat ≤ c.toNat) :
    ((c ++ c : BitVec 32) - (hi ++ lo : BitVec 32)).extractLsb' (16 * r) 16 = c - (if r = 0 then lo else hi) := by
  apply BitVec.eq_of_toNat_eq
  have h1 := hi.isLt
  have h2 := lo.isLt
  have h3 := c.isLt
  have e1 : (hi ++ lo : BitVec 32).toNat = hi.toNat * 65536 + lo.toNat := by
    rw [BitVec.toNat_append, Nat.shiftLeft_eq, ← Nat.shiftLeft_eq, ← Nat.shiftLeft_add_eq_or_of_lt h2, Nat.shiftLeft_eq]
  have e2 : (c ++ c : BitVec 32).toNat = c.toNat * 65536 + c.toNat := by
    rw [BitVec.toNat_append, Nat.shiftLeft_eq, ← Nat.shiftLeft_eq, ← Nat.shiftLeft_add_eq_or_of_lt h3, Nat.shiftLeft_eq]
  rw [BitVec.extractLsb'_toNat, BitVec.toNat_sub, e1, e2, Nat.shiftRight_eq_div_pow]
  rcases (show r = 0 ∨ r = 1 by omega) with rfl | rfl
  · rw [if_pos rfl, BitVec.toNat_sub]
    simp only [Nat.mul_zero, Nat.pow_zero, Nat.div_one]
    omega
  · rw [if_neg (by omega), BitVec.toNat_sub]
    simp only [Nat.mul_one, Nat.reducePow, Nat.reduceAdd, Nat.reduceMul]
    by_cases hh : hi.toNat ≤ c.toNat
    · rw [show (4294967296 - (hi.toNat * 65536 + lo.toNat) + (c.toNat * 65536 + c.toNat)) % 4294967296
        = (c.toNat - hi.toNat) * 65536 + (c.toNat - lo.toNat) by omega]
      exact top_half _ _ _ 1 (by omega) (by omega)
    · rw [show (4294967296 - (hi.toNat * 65536 + lo.toNat) + (c.toNat * 65536 + c.toNat)) % 4294967296
        = (65536 + c.toNat - hi.toNat) * 65536 + (c.toNat - lo.toNat) by omega]
      exact top_half _ _ _ 0 (by omega) (by omega)

section Pairs

variable {s t : Shape}

/-- Row `row j / 2` of the pairs, its half `row j % 2`, is row `row j`. -/
theorem half_row (x : s.Idx → BitVec 16) (h : s.Bitcasts 16 t 32) (h' : t.Bitcasts 32 s 16) (j : s.Idx) (i : t.Idx)
    (hi : i = h'.srcIdx j (s.row j / 2) (fun a ha => by have := h'.pos_lt j 0 (by decide) a ha; omega))
    (hs : 2 ≤ s.rank) :
    (if s.row j % 2 = 0 then x (h.srcIdx i (2 * t.row i) (by simpa using h.pair_lt i 0 (by decide)))
      else x (h.srcIdx i (2 * t.row i + 1) (h.pair_lt i 1 (by decide)))) = x j := by
  have hr : t.rank = s.rank := h.1
  have hrow : t.row i = s.row j / 2 := by
    have h2 : 2 ≤ t.rank := by omega
    simp only [Shape.row, dif_pos h2]
    rw [hi]
    exact Shape.Bitcasts.srcIdx_row h' j _ _ _ (by simp [Shape.rowAx]; omega)
  have hsrow : ∀ a : Fin s.rank, a.val + 2 = s.rank → s.row j = (j a).val := fun a ha => by
    simp only [Shape.row, dif_pos hs]
    rw [show s.rowAx hs = a from Fin.ext (by simp [Shape.rowAx]; omega)]
  have key : ∀ (p : ℕ) (hp), p = s.row j → h.srcIdx i p hp = j := fun p hp e => by
    funext a
    apply Fin.ext
    by_cases ha : a.val + 2 = s.rank
    · rw [Shape.Bitcasts.srcIdx_row h i p hp a ha, e, hsrow a ha]
    · rw [Shape.Bitcasts.srcIdx_other h i p hp a ha, hi, Shape.Bitcasts.srcIdx_other h' j _ _ _ (by simpa [hr] using ha)]
      rfl
  split
  · rw [key _ _ (by omega)]
  · rw [key _ _ (by omega)]

/-- Packed in pairs, a constant pair subtracted, and unpacked: the constant subtracted from each word. -/
theorem pairs_sub (x : s.Idx → BitVec 16) (h : s.Bitcasts 16 t 32) (h' : t.Bitcasts 32 s 16) (hs : 2 ≤ s.rank) (c : BitVec 16)
    (hx : ∀ i, c.toNat ≤ (x i).toNat) (j : s.Idx) :
    bitcast s 16 (fun i => bitcast t 32 x h i - (c ++ c : BitVec 32)) h' j = x j - c := by
  rw [bitcast_32_16]
  rw [bitcast_16_32, pair_sub _ _ _ _ (Nat.mod_lt _ (by omega)) (hx _)]
  rw [half_row x h h' j _ rfl hs]

/-- Packed in pairs, subtracted from a constant pair, and unpacked: each word subtracted from the constant. -/
theorem pairs_rsub (x : s.Idx → BitVec 16) (h : s.Bitcasts 16 t 32) (h' : t.Bitcasts 32 s 16) (hs : 2 ≤ s.rank) (c : BitVec 16)
    (hx : ∀ i, (x i).toNat ≤ c.toNat) (j : s.Idx) :
    bitcast s 16 (fun i => (c ++ c : BitVec 32) - bitcast t 32 x h i) h' j = c - x j := by
  rw [bitcast_32_16]
  rw [bitcast_16_32, pair_rsub _ _ _ _ (Nat.mod_lt _ (by omega)) (hx _)]
  rw [half_row x h h' j _ rfl hs]

end Pairs

end Cert.Mla

end
-- ==== Proof.Mla.Quant.lean ====
/-
  One group of 128 numbers quantised, element by element, over the extended reals: what the kernel's vector operations
  on a block of 256 rows and 128 columns compute, against the scale stated with the logarithm and the power.
-/
module

public import proofs.«01_k».proof.Proof.Gen.KernelIdeal.Skeleton
public import proofs.«01_k».proof.Proof.Mla.Ladder
public import Idealize.ShloMosaic.Lib.ValueIdx
public import Idealize.ShloMosaic.PureOps.Ideal.Laws
public import Idealize.ShloMosaic.Lib.Pipeline.Value

@[expose] public section

noncomputable section

namespace Cert.Mla

open Idealize.ShloMosaic Idealize.ShloMosaic.ValueIdx Cert.KernelIdeal Cert.KernelIdeal.Gen

/-- A fold of the maximum from −∞ is the supremum. -/
theorem fold_max_eq_sup {ι : Type} [Fintype ι] (f : ι → EReal) : (Finset.univ : Finset ι).fold max ⊥ f = Finset.univ.sup f := rfl

/-- The largest magnitude of a group of 128 numbers. -/
def amax (f : Fin 128 → EReal) : EReal := Finset.univ.sup fun k => max (f k) (-(f k))

/-- The group's scale, a power of two. -/
def scaleOf (f : Fin 128 → EReal) : EReal := Ideal.pow (2 : ℝ) (refExp (amax f))

/-- The scale's inverse. -/
def invOf (f : Fin 128 → EReal) : EReal := Ideal.pow (2 : ℝ) (-refExp (amax f))

/-- One number scaled and cut off at ±448. -/
def codeOf (x inv : EReal) : EReal := min (Ideal.ieee 8 23 0x43E00000#32) (max (Ideal.ieee 8 23 0xC3E00000#32) (x * inv))

/-! ## The kernel's operations on one block of a group -/

/-- The codes, the numbers they stand for, and the scales: as the first quantised group computes them. -/
def codesQ {F : FTy → Type} [FloatOps F] (x : Vec F S256x128 .bf16) : FVec F S256x128 .fp8e4m3 :=
  k0_pay29 (k0_pay24 x) (k0_pay25 x) (k0_pay26 x)
def xaQ {F : FTy → Type} [FloatOps F] (x : Vec F S256x128 .bf16) : FVec F S256x128 .bf16 :=
  k0_pay30 (k0_pay24 x) (k0_pay25 x) (k0_pay26 x)
def xsQ {F : FTy → Type} [FloatOps F] (x : Vec F S256x128 .bf16) : FVec F S256x1 .f32 :=
  k0_pay31 (k0_pay25 x) (k0_pay26 x)

/-- Row `r` of a block. -/
def row (x : S256x128.Idx → EReal) (i : Fin 256) : Fin 128 → EReal := fun k => x (ix2 i k)

theorem cmp_olt (a b : EReal) : (Ideal.cmp .olt a b = 1#1) ↔ a < b := by
  show BitVec.ofBool (decide (a < b)) = 1#1 ↔ a < b
  by_cases h : a < b <;> simp [h]

/-- The row maximum of the magnitudes. -/
theorem rowMax_eq (x : FVec Ideal S256x128 .bf16) (h : S256x128.Reduces [1] S256) (h1 h2) (r : S256.Idx) :
    multiReduction .maximumf [1] S256 (absf x) 0xFF80#16 h h1 h2 r = amax (row x (r 0)) := by
  have hbot : Ideal.ieee 8 7 0xFF80#16 = ⊥ := by simp [Ideal.ieee]
  rw [Ideal.multiReduction_maximumf_single]
  show Finset.fold max (Ideal.ieee 8 7 0xFF80#16) _ _ = _
  rw [hbot]
  refine (fold_max_eq_sup _).trans ?_
  unfold amax
  refine congrArg _ (funext fun k => ?_)
  have e : h.lift r k = ix2 (r 0) k := Shape.idx_ext₂ (by rw [h.lift_val]; rfl) (by rw [h.lift_val]; rfl)
  show max (x (h.lift r k)) (-(x (h.lift r k))) = _
  rw [e]; rfl

theorem lifted_apply (v : FVec Ideal S256x1 .bf16) (j : S256x1.Idx) :
    select (cmpf .olt v (broadcast S256x1 (FloatOps.ofBits .bf16 0x04E0#16))) (broadcast S256x1 (FloatOps.ofBits .bf16 0x4380#16)) v j
      = lifted (v j) := by
  unfold lifted
  simp only [← cmp_olt]
  rfl

theorem lifted_eq (x : Vec Ideal S256x128 .bf16) (i : S256x128.Idx) : k0_pay25 x i = lifted (amax (row x (i 0))) := by
  unfold k0_pay25 k0_pay24
  dsimp only
  rw [broadcastTo_apply _ _ i (ix2 (i 0) 0 : S256x1.Idx) (by intro a; match a with | ⟨0, _⟩ => rfl | ⟨1, _⟩ => rfl)]
  simp only [shapeCast_self]
  have e : ∀ (y : S256.Idx → EReal), shapeCast S256x1 y shapeCasts_S256_S256x1 (ix2 (i 0) 0) = y (ix1 (i 0)) := fun y =>
    shapeCast_apply _ _ _ _ (by rw [Shape.rowMajor_val_two, Shape.rowMajor_val_one]; show (i 0).val = (i 0).val * 1 + 0; omega)
  have hm := rowMax_eq x reduces_S256x128_S256 (.inr rfl) rfl (ix1 (i 0))
  rw [lifted_apply, e, hm]

/-- One comparison of the exponent's search, on a whole block. -/
def rungV (a : FVec Ideal S256x128 .bf16) (u : IVec S256x128 16) (c : BitVec 16) : IVec S256x128 16 :=
  select (cmpf .olt a (bitcastToFloat .bf16 (addi u (broadcast S256x128 c)))) u (addi u (broadcast S256x128 c))

theorem rungV_apply (a : FVec Ideal S256x128 .bf16) (u : IVec S256x128 16) (c : BitVec 16) (i : S256x128.Idx) :
    rungV a u c i = rung (a i) (u i) c := by
  unfold rung
  simp only [← cmp_olt]
  rfl

theorem pay26_eq (x : Vec Ideal S256x128 .bf16) :
    k0_pay26 x = rungV (k0_pay25 x) (rungV (k0_pay25 x) (rungV (k0_pay25 x) (rungV (k0_pay25 x) (rungV (k0_pay25 x) (rungV (k0_pay25 x)
      (broadcast S256x128 65504#16) 16384#16) 8192#16) 4096#16) 2048#16) 1024#16) 512#16 := rfl

theorem pay27_eq (a : FVec Ideal S256x128 .bf16) (v : IVec S256x128 16) :
    k0_pay27 a v = bitcast S128x128 32 (addi (rungV a (rungV a v 256#16) 128#16) (broadcast S256x128 32#16))
      bitcasts_S256x128_w16_S128x128_w32 := rfl

/-- The exponent field of the lifted maximum, as the comparisons with the powers of two find it. -/
theorem fields_eq (x : Vec Ideal S256x128 .bf16) :
    k0_pay27 (k0_pay25 x) (k0_pay26 x)
      = bitcast S128x128 32 (fun i => fieldW (amax (row x (i 0)))) bitcasts_S256x128_w16_S128x128_w32 := by
  rw [pay27_eq, pay26_eq]
  refine congrArg (fun v => bitcast S128x128 32 v bitcasts_S256x128_w16_S128x128_w32) (funext fun i => ?_)
  show rungV _ _ _ i + 32#16 = _
  simp only [rungV_apply, lifted_eq]
  rfl

theorem scale_apply (x : Vec Ideal S256x128 .bf16) (i : S256x128.Idx) :
    k0_pay28 (k0_pay25 x) (k0_pay26 x) i = scaleOf (row x (i 0)) := by
  unfold k0_pay28
  rw [fields_eq]
  have h := pairs_sub (fun i : S256x128.Idx => fieldW (amax (row x (i 0)))) bitcasts_S256x128_w16_S128x128_w32
    bitcasts_S128x128_w32_S256x128_w16 (by decide) 1024#16 (fun i => (field_spec _).1) i
  show Ideal.ieee 8 7 (bitcast S256x128 16 (fun j => bitcast S128x128 32 _ _ j - (1024#16 ++ 1024#16 : BitVec 32)) _ i) = _
  rw [h]
  exact (field_spec _).2.2.1

theorem inv_apply (x : Vec Ideal S256x128 .bf16) (i : S256x128.Idx) :
    bitcastToFloat (F := Ideal) .bf16 (bitcast S256x128 16 (subi (broadcast S128x128 2197848832#32) (k0_pay27 (k0_pay25 x) (k0_pay26 x)))
      bitcasts_S128x128_w32_S256x128_w16) i = invOf (row x (i 0)) := by
  rw [fields_eq]
  have h := pairs_rsub (fun i : S256x128.Idx => fieldW (amax (row x (i 0)))) bitcasts_S256x128_w16_S128x128_w32
    bitcasts_S128x128_w32_S256x128_w16 (by decide) 33536#16 (fun i => (field_spec _).2.1) i
  show Ideal.ieee 8 7 (bitcast S256x128 16 (fun j => (33536#16 ++ 33536#16 : BitVec 32) - bitcast S128x128 32 _ _ j) _ i) = _
  rw [h]
  exact (field_spec _).2.2.2

theorem codesQ_apply (x : Vec Ideal S256x128 .bf16) (i : S256x128.Idx) :
    codesQ x i = codeOf (x i) (invOf (row x (i 0))) := by
  rw [← inv_apply x i]
  unfold codesQ k0_pay29 k0_pay24
  rw [shapeCast_self]
  rfl

theorem xaQ_apply (x : Vec Ideal S256x128 .bf16) (i : S256x128.Idx) :
    xaQ x i = codeOf (x i) (invOf (row x (i 0))) * scaleOf (row x (i 0)) := by
  rw [← codesQ_apply, ← scale_apply x i]
  unfold xaQ k0_pay30
  rw [shapeCast_self]
  rfl

theorem xsQ_apply (x : Vec Ideal S256x128 .bf16) (i : S256x1.Idx) :
    xsQ x i = scaleOf (row x (i 0)) := by
  unfold xsQ k0_pay31
  have e := extractStridedSlice_apply ![0, 0] (k0_pay28 (k0_pay25 x) (k0_pay26 x)) slices_S256x128_o0_0_S256x1 i
    (ix2 (i 0) 0 : S256x128.Idx) (by
      intro a
      match a with
      | ⟨0, _⟩ => show (i 0).val = 0 + (i 0).val; omega
      | ⟨1, _⟩ => have : (i 1).val < 1 := (i 1).isLt; show 0 = 0 + (i 1).val; omega)
  exact e.trans (scale_apply x _)

end Cert.Mla

end
-- ==== Proof.Mla.Tiles.lean ====
/-
  The pieces the kernel's runs leave, one list per buffer: a band of 256 rows is 32 tiles of 128 columns, each one
  function of the tile loaded; a band's products are four chunks of 512 columns.
-/
module

public import proofs.«01_k».proof.Proof.Mla.RunC
public import proofs.«01_k».proof.Proof.Mla.Quant

@[expose] public section

set_option maxRecDepth 8192

noncomputable section

namespace Cert.Mla

open Idealize.ShloMosaic Idealize.ShloMosaic.TcCoe Idealize.ShloMosaic.Tactic Idealize.ShloMosaic.ValueIdx
open Cert.KernelIdeal Cert.KernelIdeal.Gen

variable {F : FTy → Type} [FloatOps F]

theorem tile_inb (r : Nat) (hr : r + 256 ≤ 512) (g : Fin 32) : ∀ a : Fin S512x4096.rank,
    (![r, 128 * g.val] : Fin 2 → Nat) a + S256x128.size a ≤ S512x4096.size a := by
  intro a; have := g.isLt
  match a with
  | ⟨0, _⟩ => exact hr
  | ⟨1, _⟩ => show 128 * g.val + 128 ≤ 4096; omega

theorem band_inb (g : Fin 32) : ∀ a : Fin S256x4096.rank,
    (![0, 128 * g.val] : Fin 2 → Nat) a + S256x128.size a ≤ S256x4096.size a := by
  intro a; have := g.isLt
  match a with
  | ⟨0, _⟩ => exact Nat.le_refl _
  | ⟨1, _⟩ => show 128 * g.val + 128 ≤ 4096; omega

theorem scale_inb (r : Nat) (hr : r + 256 ≤ 512) (g : Fin 32) : ∀ a : Fin S512x32.rank,
    (![r, g.val] : Fin 2 → Nat) a + S256x1.size a ≤ S512x32.size a := by
  intro a; have := g.isLt
  match a with
  | ⟨0, _⟩ => exact hr
  | ⟨1, _⟩ => show g.val + 1 ≤ 32; omega

theorem y_inb (j : Fin 4) : ∀ a : Fin S256x2048.rank,
    (![0, 512 * j.val] : Fin 2 → Nat) a + S256x512.size a ≤ S256x2048.size a := by
  intro a; have := j.isLt
  match a with
  | ⟨0, _⟩ => exact Nat.le_refl _
  | ⟨1, _⟩ => show 512 * j.val + 512 ≤ 2048; omega

theorem wt_inb (j : Fin 4) : ∀ a : Fin S4096x2048.rank,
    (![0, 512 * j.val] : Fin 2 → Nat) a + S4096x512.size a ≤ S4096x2048.size a := by
  intro a; have := j.isLt
  match a with
  | ⟨0, _⟩ => exact Nat.le_refl _
  | ⟨1, _⟩ => show 512 * j.val + 512 ≤ 2048; omega

/-- The tile of 128 columns beginning at column `128 g` of the 256 rows from row `r` on, as a load reads it. -/
def tile (x : Vec F S512x4096 .bf16) (r : Nat) (hr : r + 256 ≤ 512) (g : Fin 32) : Vec F S256x128 .bf16 :=
  View.ld x (Rect.unit (s := S512x4096) ![r, 128 * g.val] S256x128.size (tile_inb r hr g))

/-- The pieces of a band of 256 rows, one tile of 128 columns each, the last column first. -/
def band256 {e : EltTy} (V : Fin 32 → Vec F S256x128 e) : List (View.Piece (Elt F) S256x4096 e) :=
  (List.finRange 32).reverse.map fun g => ⟨Rect.unit (s := S256x4096) ![0, 128 * g.val] S256x128.size (band_inb g), V g⟩

/-- The same in the 256 rows from row `r` on of a block of 512. -/
def band512 {e : EltTy} (r : Nat) (hr : r + 256 ≤ 512) (V : Fin 32 → Vec F S256x128 e) : List (View.Piece (Elt F) S512x4096 e) :=
  (List.finRange 32).reverse.map fun g => ⟨Rect.unit (s := S512x4096) ![r, 128 * g.val] S256x128.size (tile_inb r hr g), V g⟩

/-- One column per tile. -/
def bandS {e : EltTy} (r : Nat) (hr : r + 256 ≤ 512) (V : Fin 32 → Vec F S256x1 e) : List (View.Piece (Elt F) S512x32 e) :=
  (List.finRange 32).reverse.map fun g => ⟨Rect.unit (s := S512x32) ![r, g.val] S256x1.size (scale_inb r hr g), V g⟩

/-- The codes of a block's two bands. -/
def codesL (x : Vec F S512x4096 .bf16) : List (View.Piece (Elt F) S512x4096 .fp8e4m3) :=
  band512 256 (by decide) (fun g => codesQ (tile x 256 (by decide) g)) ++ band512 0 (by decide) fun g => codesQ (tile x 0 (by decide) g)

/-- The scales of a block's two bands. -/
def scalesL (x : Vec F S512x4096 .bf16) : List (View.Piece (Elt F) S512x32 .f32) :=
  bandS 256 (by decide) (fun g => xsQ (tile x 256 (by decide) g)) ++ bandS 0 (by decide) fun g => xsQ (tile x 0 (by decide) g)

/-- The scaled activations of a band. -/
def xaL (x : Vec F S512x4096 .bf16) (r : Nat) (hr : r + 256 ≤ 512) : List (View.Piece (Elt F) S256x4096 .bf16) :=
  band256 fun g => xaQ (tile x r hr g)

/-- A band's products with the weights, four chunks of 512 columns. -/
def yL (xa : Vec F S256x4096 .bf16) (w : Vec F S4096x2048 .bf16) : List (View.Piece (Elt F) S256x2048 .f32) :=
  (List.finRange 4).reverse.map fun j => ⟨Rect.unit (s := S256x2048) ![0, 512 * j.val] S256x512.size (y_inb j),
    k0_pay316 xa (View.ld w (Rect.unit (s := S4096x2048) ![0, 512 * j.val] S4096x512.size (wt_inb j)))⟩

/-- A band's products with the last 64 weight rows. -/
def kpL (xa : Vec F S256x4096 .bf16) (w : Vec F S64x4096 .bf16) : List (View.Piece (Elt F) S64x256 .f32) :=
  [⟨Rect.unit (s := S64x256) ![0, 0] S64x256.size inb_S64x256_S64x256_0_0, k0_pay321 xa w⟩]

abbrev wholeXa (x : Vec F S256x4096 .bf16) : Vec F S256x4096 .bf16 :=
  View.ld x (Rect.unit (s := S256x4096) ![0, 0] S256x4096.size inb_S256x4096_S256x4096_0_0)
abbrev wholeWp (x : Vec F S64x4096 .bf16) : Vec F S64x4096 .bf16 :=
  View.ld x (Rect.unit (s := S64x4096) ![0, 0] S64x4096.size inb_S64x4096_S64x4096_0_0)
abbrev wholeKp (x : Vec F S64x256 .f32) : Vec F S64x256 .f32 :=
  View.ld x (Rect.unit (s := S64x256) ![0, 0] S64x256.size inb_S64x256_S64x256_0_0)
abbrev wholeGq (x : Vec F S1x1536 .bf16) : Vec F S1x1536 .bf16 :=
  View.ld x (Rect.unit (s := S1x1536) ![0, 0] S1x1536.size inb_S1x1536_S1x1536_0_0)
abbrev wholeGc (x : Vec F S1x512 .bf16) : Vec F S1x512 .bf16 :=
  View.ld x (Rect.unit (s := S1x512) ![0, 0] S1x512.size inb_S1x512_S1x512_0_0)
abbrev yq (x : Vec F S256x2048 .f32) : Vec F S256x1536 .f32 :=
  View.ld x (Rect.unit (s := S256x2048) ![0, 0] S256x1536.size inb_S256x2048_S256x1536_0_0)
abbrev yc (x : Vec F S256x2048 .f32) : Vec F S256x512 .f32 :=
  View.ld x (Rect.unit (s := S256x2048) ![0, 1536] S256x512.size inb_S256x2048_S256x512_0_1536)

/-- The three normalised or transposed outputs of a block: the second band's piece, then the first's. -/
def qL (ya yb : Vec F S256x2048 .f32) (g : Vec F S1x1536 .bf16) : List (View.Piece (Elt F) S512x1536 .bf16) :=
  [⟨Rect.unit (s := S512x1536) ![256, 0] S256x1536.size inb_S512x1536_S256x1536_256_0, k0_pay913 (yq yb) (wholeGq g)⟩,
   ⟨Rect.unit (s := S512x1536) ![0, 0] S256x1536.size inb_S512x1536_S256x1536_0_0, k0_pay913 (yq ya) (wholeGq g)⟩]
def cL (ya yb : Vec F S256x2048 .f32) (g : Vec F S1x512 .bf16) : List (View.Piece (Elt F) S512x512 .bf16) :=
  [⟨Rect.unit (s := S512x512) ![256, 0] S256x512.size inb_S512x512_S256x512_256_0, k0_pay914 (yc yb) (wholeGc g)⟩,
   ⟨Rect.unit (s := S512x512) ![0, 0] S256x512.size inb_S512x512_S256x512_0_0, k0_pay914 (yc ya) (wholeGc g)⟩]
def kL (ka kb : Vec F S64x256 .f32) : List (View.Piece (Elt F) S512x64 .bf16) :=
  [⟨Rect.unit (s := S512x64) ![256, 0] S256x64.size inb_S512x64_S256x64_256_0, k0_pay915 (wholeKp kb)⟩,
   ⟨Rect.unit (s := S512x64) ![0, 0] S256x64.size inb_S512x64_S256x64_0_0, k0_pay915 (wholeKp ka)⟩]

section RunA

variable (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : cond0_0 i) (hc1 : ¬cond0_1 i) (hc2 : ¬cond0_2 i) (x0 : Vec F S17x32 .f32) (x1 : Vec F S512x4096 .bf16) (x2 : Vec F S2112x4096 .fp8e4m3) (x3 : Vec F S1x1536 .bf16) (x4 : Vec F S1x512 .bf16) (xs0 : Vec F S4096x2048 .bf16) (xs1 : Vec F S64x4096 .bf16) (xs2 : Vec F S256x4096 .bf16) (xs3 : Vec F S256x4096 .bf16) (xs4 : Vec F S256x2048 .f32) (xs5 : Vec F S256x2048 .f32) (xs6 : Vec F S64x256 .f32) (xs7 : Vec F S64x256 .f32)

theorem A_codes :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).1
      = codesL (arg2.view.read (Elt F) (harg2.unread x1)) := by
  sl_kernel_rfl

theorem A_scales :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.1
      = scalesL (arg2.view.read (Elt F) (harg2.unread x1)) := by
  sl_kernel_rfl

theorem A_wt :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2) (Scf.trips k0_t1_loop.lb k0_t1_loop.ub k0_t1_loop.st)).1 := by
  sl_kernel_rfl

theorem A_wp :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2) (Scf.trips k0_t1_loop.lb k0_t1_loop.ub k0_t1_loop.st)).2 := by
  sl_kernel_rfl

theorem A_xb :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.1
      = xaL (arg2.view.read (Elt F) (harg2.unread x1)) 256 (by decide) := by
  sl_kernel_rfl

theorem A_ya :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.1
      = yL (wholeXa (arg13.view.read (Elt F) (arg13.view.writes (Elt F) arg13.view.junk (xaL (arg2.view.read (Elt F) (harg2.unread x1)) 0 (by decide))))) (arg11.view.read (Elt F) (arg11.view.writes (Elt F) (harg11.unread xs0) (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2) (Scf.trips k0_t1_loop.lb k0_t1_loop.ub k0_t1_loop.st)).1)) := by
  sl_kernel_rfl

theorem A_ka :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.1
      = kpL (wholeXa (arg13.view.read (Elt F) (arg13.view.writes (Elt F) arg13.view.junk (xaL (arg2.view.read (Elt F) (harg2.unread x1)) 0 (by decide))))) (wholeWp (arg12.view.read (Elt F) (arg12.view.writes (Elt F) (harg12.unread xs1) (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2) (Scf.trips k0_t1_loop.lb k0_t1_loop.ub k0_t1_loop.st)).2))) := by
  sl_kernel_rfl

end RunA

section RunB

variable (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : ¬cond0_0 i) (hc1 : cond0_1 i) (hc2 : ¬cond0_2 i) (x0 : Vec F S17x32 .f32) (x1 : Vec F S512x4096 .bf16) (x2 : Vec F S2112x4096 .fp8e4m3) (x3 : Vec F S1x1536 .bf16) (x4 : Vec F S1x512 .bf16) (xs0 : Vec F S4096x2048 .bf16) (xs1 : Vec F S64x4096 .bf16) (xs2 : Vec F S256x4096 .bf16) (xs3 : Vec F S256x4096 .bf16) (xs4 : Vec F S256x2048 .f32) (xs5 : Vec F S256x2048 .f32) (xs6 : Vec F S64x256 .f32) (xs7 : Vec F S64x256 .f32)

theorem B_q :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).1
      = qL (arg15.view.read (Elt F) (harg15.unread xs4)) (arg16.view.read (Elt F) (arg16.view.writes (Elt F) arg16.view.junk (yL (wholeXa (arg14.view.read (Elt F) (harg14.unread xs3))) (arg11.view.read (Elt F) (harg11.unread xs0))))) (arg4.view.read (Elt F) (harg4.unread x3)) := by
  sl_kernel_rfl

theorem B_c :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.1
      = cL (arg15.view.read (Elt F) (harg15.unread xs4)) (arg16.view.read (Elt F) (arg16.view.writes (Elt F) arg16.view.junk (yL (wholeXa (arg14.view.read (Elt F) (harg14.unread xs3))) (arg11.view.read (Elt F) (harg11.unread xs0))))) (arg5.view.read (Elt F) (harg5.unread x4)) := by
  sl_kernel_rfl

theorem B_k :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.1
      = kL (arg17.view.read (Elt F) (harg17.unread xs6)) (arg18.view.read (Elt F) (arg18.view.writes (Elt F) arg18.view.junk (kpL (wholeXa (arg14.view.read (Elt F) (harg14.unread xs3))) (wholeWp (arg12.view.read (Elt F) (harg12.unread xs1)))))) := by
  sl_kernel_rfl

theorem B_codes :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.1
      = codesL (arg2.view.read (Elt F) (harg2.unread x1)) := by
  sl_kernel_rfl

theorem B_scales :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.1
      = scalesL (arg2.view.read (Elt F) (harg2.unread x1)) := by
  sl_kernel_rfl

theorem B_xb :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.1
      = xaL (arg2.view.read (Elt F) (harg2.unread x1)) 256 (by decide) := by
  sl_kernel_rfl

theorem B_ya :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.1
      = yL (wholeXa (arg13.view.read (Elt F) (arg13.view.writes (Elt F) arg13.view.junk (xaL (arg2.view.read (Elt F) (harg2.unread x1)) 0 (by decide))))) (arg11.view.read (Elt F) (harg11.unread xs0)) := by
  sl_kernel_rfl

theorem B_ka :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.2.1
      = kpL (wholeXa (arg13.view.read (Elt F) (arg13.view.writes (Elt F) arg13.view.junk (xaL (arg2.view.read (Elt F) (harg2.unread x1)) 0 (by decide))))) (wholeWp (arg12.view.read (Elt F) (harg12.unread xs1))) := by
  sl_kernel_rfl

end RunB

section RunC

variable (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : ¬cond0_0 i) (hc1 : ¬cond0_1 i) (hc2 : cond0_2 i) (x0 : Vec F S17x32 .f32) (x1 : Vec F S512x4096 .bf16) (x2 : Vec F S2112x4096 .fp8e4m3) (x3 : Vec F S1x1536 .bf16) (x4 : Vec F S1x512 .bf16) (x8 : Vec F S512x4096 .fp8e4m3) (x9 : Vec F S512x32 .f32) (xs0 : Vec F S4096x2048 .bf16) (xs1 : Vec F S64x4096 .bf16) (xs2 : Vec F S256x4096 .bf16) (xs3 : Vec F S256x4096 .bf16) (xs4 : Vec F S256x2048 .f32) (xs5 : Vec F S256x2048 .f32) (xs6 : Vec F S64x256 .f32) (xs7 : Vec F S64x256 .f32)

theorem C_q :
    (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).1
      = qL (arg15.view.read (Elt F) (harg15.unread xs4)) (arg16.view.read (Elt F) (arg16.view.writes (Elt F) arg16.view.junk (yL (wholeXa (arg14.view.read (Elt F) (harg14.unread xs3))) (arg11.view.read (Elt F) (harg11.unread xs0))))) (arg4.view.read (Elt F) (harg4.unread x3)) := by
  sl_kernel_rfl

theorem C_c :
    (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).2.1
      = cL (arg15.view.read (Elt F) (harg15.unread xs4)) (arg16.view.read (Elt F) (arg16.view.writes (Elt F) arg16.view.junk (yL (wholeXa (arg14.view.read (Elt F) (harg14.unread xs3))) (arg11.view.read (Elt F) (harg11.unread xs0))))) (arg5.view.read (Elt F) (harg5.unread x4)) := by
  sl_kernel_rfl

theorem C_k :
    (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).2.2.1
      = kL (arg17.view.read (Elt F) (harg17.unread xs6)) (arg18.view.read (Elt F) (arg18.view.writes (Elt F) arg18.view.junk (kpL (wholeXa (arg14.view.read (Elt F) (harg14.unread xs3))) (wholeWp (arg12.view.read (Elt F) (harg12.unread xs1)))))) := by
  sl_kernel_rfl

end RunC

end Cert.Mla

end
-- ==== Proof.Mla.Block.lean ====
/-
  What one block of 512 rows comes to over the extended reals: each row quantised in 32 groups of 128 numbers, its
  products with the weights, and the two normalised parts and the rest of them.
-/
module

public import proofs.«01_k».proof.Proof.Mla.Tiles
public import Idealize.ShloMosaic.Lib.Pointwise.Contract

@[expose] public section

noncomputable section

namespace Cert.Mla

open Idealize.ShloMosaic hiding ix1 ix2 eq_ix2
open Idealize.ShloMosaic.TcCoe Idealize.ShloMosaic.Tactic Idealize.ShloMosaic.ValueIdx
open Cert.KernelIdeal Cert.KernelIdeal.Gen

/-! ## One row -/

/-- The group of a column. -/
def gOf (c : Fin 4096) : Fin 32 := ⟨c.val / 128, by have := c.isLt; omega⟩

/-- The 128 numbers of a row's group. -/
def grp (xr : Fin 4096 → EReal) (g : Fin 32) : Fin 128 → EReal := fun k =>
  xr ⟨128 * g.val + k.val, by have := g.isLt; have := k.isLt; omega⟩

def codeAt (xr : Fin 4096 → EReal) (c : Fin 4096) : EReal := codeOf (xr c) (invOf (grp xr (gOf c)))
def xsAt (xr : Fin 4096 → EReal) (g : Fin 32) : EReal := scaleOf (grp xr g)
def xaAt (xr : Fin 4096 → EReal) (c : Fin 4096) : EReal := codeAt xr c * xsAt xr (gOf c)

/-- A row of products scaled to unit mean square and by the gains. -/
def normAt {n : Nat} (N : BitVec 32) (yr gr : Fin n → EReal) (j : Fin n) : EReal :=
  yr j * Ideal.rsqrt (Ideal.div (∑ k, yr k * yr k) (Ideal.ieee 8 23 N) + Ideal.ieee 8 23 0x358637BD#32) * gr j

/-- A row of a rectangle of numbers. -/
def rowOf {n m : Nat} (x : (⟨2, ![n, m]⟩ : Shape).Idx → EReal) (i : Fin n) : Fin m → EReal := fun k => x (ix2 i k)

/-! ## Pieces that agree with one function -/

theorem read_of_pieces {κ : Kind} {sp : Space} {s : Shape} {e : EltTy} (v : View sig κ sp s e)
    (f : v.ty.Contents (Elt Ideal)) (L : List (View.Piece (Elt Ideal) s e)) (G : s.Idx → Elt Ideal e)
    (hv : ∀ p ∈ L, ∀ x, p.2 x = G (p.1.emb x)) (hc : ∀ y, ∃ p ∈ L, y ∈ p.1.set) :
    v.read (Elt Ideal) (v.writes (Elt Ideal) f L) = G := by
  rw [View.read_writes_eq_canon v f L hc]
  exact funext fun y => View.canon_apply_of_pieces G L hv y (hc y)

/-- A list of pieces computes `G`: every piece agrees with it and together they cover. -/
def Computes {s : Shape} {e : EltTy} (L : List (View.Piece (Elt Ideal) s e)) (G : s.Idx → Elt Ideal e) : Prop :=
  (∀ p ∈ L, ∀ x, p.2 x = G (p.1.emb x)) ∧ ∀ y, ∃ p ∈ L, y ∈ p.1.set

theorem Computes.read {κ : Kind} {sp : Space} {s : Shape} {e : EltTy} {L : List (View.Piece (Elt Ideal) s e)}
    {G : s.Idx → Elt Ideal e} (h : Computes L G) (v : View sig κ sp s e) (f : v.ty.Contents (Elt Ideal)) :
    v.read (Elt Ideal) (v.writes (Elt Ideal) f L) = G := read_of_pieces v f L G h.1 h.2

/-! ## A block of 512 rows -/

def codesG (x : Vec Ideal S512x4096 .bf16) : Vec Ideal S512x4096 .fp8e4m3 := fun y => codeAt (rowOf x (y 0)) (y 1)
def scalesG (x : Vec Ideal S512x4096 .bf16) : Vec Ideal S512x32 .f32 := fun y => xsAt (rowOf x (y 0)) (y 1)

/-- Row `r + i` of a block, for the 256 rows from `r` on. -/
def bandRow (x : Vec Ideal S512x4096 .bf16) (r : Nat) (hr : r + 256 ≤ 512) (i : Fin 256) : Fin 4096 → EReal :=
  rowOf x (⟨r + i.val, by have := i.isLt; omega⟩ : Fin 512)
def xaG (x : Vec Ideal S512x4096 .bf16) (r : Nat) (hr : r + 256 ≤ 512) : Vec Ideal S256x4096 .bf16 := fun y =>
  xaAt (bandRow x r hr (y 0)) (y 1)
def yG (xa : Vec Ideal S256x4096 .bf16) (w : Vec Ideal S4096x2048 .bf16) : Vec Ideal S256x2048 .f32 := fun y =>
  ∑ k : Fin 4096, xa (ix2 (y 0) k) * w (ix2 k (y 1))
/-- The two bands' products as the block's 512 rows of them. -/
def halves (ya yb : Vec Ideal S256x2048 .f32) (i : Fin 512) (c : Fin 2048) : EReal :=
  if h : i.val < 256 then ya (ix2 ⟨i.val, h⟩ c) else yb (ix2 ⟨i.val - 256, by have := i.isLt; omega⟩ c)
def kpG (xa : Vec Ideal S256x4096 .bf16) (w : Vec Ideal S64x4096 .bf16) : Vec Ideal S64x256 .f32 := fun y =>
  ∑ k : Fin 4096, w (ix2 (y 0) k) * xa (ix2 (y 1) k)

theorem tile_apply (x : Vec Ideal S512x4096 .bf16) (r : Nat) (hr : r + 256 ≤ 512) (g : Fin 32) (i : S256x128.Idx) (y : S512x4096.Idx)
    (h0 : (y 0).val = r + (i 0).val) (h1 : (y 1).val = 128 * g.val + (i 1).val) : tile x r hr g i = x y := by
  unfold tile View.ld
  refine congrArg x (Shape.idx_ext₂ ?_ ?_)
  · show r + 1 * (i 0).val = _; omega
  · show 128 * g.val + 1 * (i 1).val = _; omega

theorem row_tile (x : Vec Ideal S512x4096 .bf16) (r : Nat) (hr : r + 256 ≤ 512) (g : Fin 32) (i : Fin 256) :
    row (tile x r hr g) i = grp (bandRow x r hr i) g :=
  funext fun k => tile_apply x r hr g (ix2 i k) _ rfl rfl

theorem gOf_of (c : Fin 4096) (g : Fin 32) (k : Nat) (hk : k < 128) (h : c.val = 128 * g.val + k) : gOf c = g :=
  Fin.ext (by show c.val / 128 = g.val; omega)

/-- A tile's element is its row's at its column. -/
theorem tile_code (x : Vec Ideal S512x4096 .bf16) (r : Nat) (hr : r + 256 ≤ 512) (g : Fin 32) (i : S256x128.Idx) (c : Fin 4096)
    (hc : c.val = 128 * g.val + (i 1).val) :
    codeOf (tile x r hr g i) (invOf (row (tile x r hr g) (i 0))) = codeAt (bandRow x r hr (i 0)) c := by
  unfold codeAt
  rw [gOf_of c g (i 1).val (i 1).isLt hc]
  exact congrArg₂ (fun a f => codeOf a (invOf f))
    (tile_apply x r hr g i (ix2 ⟨r + (i 0).val, by have : (i 0).val < 256 := (i 0).isLt; omega⟩ c) rfl hc) (row_tile x r hr g (i 0))

theorem tile_xa (x : Vec Ideal S512x4096 .bf16) (r : Nat) (hr : r + 256 ≤ 512) (g : Fin 32) (i : S256x128.Idx) (c : Fin 4096)
    (hc : c.val = 128 * g.val + (i 1).val) : xaQ (tile x r hr g) i = xaAt (bandRow x r hr (i 0)) c := by
  rw [xaQ_apply, tile_code x r hr g i c hc]
  unfold xaAt xsAt
  rw [gOf_of c g (i 1).val (i 1).isLt hc]
  exact congrArg (fun f => _ * scaleOf f) (row_tile x r hr g (i 0))

theorem tile_xs (x : Vec Ideal S512x4096 .bf16) (r : Nat) (hr : r + 256 ≤ 512) (g : Fin 32) (i : S256x1.Idx) :
    xsQ (tile x r hr g) i = xsAt (bandRow x r hr (i 0)) g := by
  rw [xsQ_apply]
  exact congrArg scaleOf (row_tile x r hr g (i 0))

theorem band512_codes (x : Vec Ideal S512x4096 .bf16) (r : Nat) (hr : r + 256 ≤ 512) :
    ∀ p ∈ band512 (F := Ideal) r hr (fun g => codesQ (tile x r hr g)), ∀ j, p.2 j = codesG x (p.1.emb j) := by
  intro p hp j
  obtain ⟨g, _, rfl⟩ := List.mem_map.1 hp
  show codesQ (tile x r hr g) j = _
  rw [codesQ_apply]
  refine (tile_code x r hr g j ⟨128 * g.val + (j 1).val, by have : (j 1).val < 128 := (j 1).isLt; have := g.isLt; omega⟩ rfl).trans ?_
  unfold codesG bandRow
  congr 1
  · exact congrArg _ (Fin.ext (by show r + (j 0).val = r + 1 * (j 0).val; omega))
  · exact Fin.ext (by show 128 * g.val + (j 1).val = 128 * g.val + 1 * (j 1).val; omega)

theorem bandS_scales (x : Vec Ideal S512x4096 .bf16) (r : Nat) (hr : r + 256 ≤ 512) :
    ∀ p ∈ bandS (F := Ideal) r hr (fun g => xsQ (tile x r hr g)), ∀ j, p.2 j = scalesG x (p.1.emb j) := by
  intro p hp j
  obtain ⟨g, _, rfl⟩ := List.mem_map.1 hp
  have h1 : (j 1).val < 1 := (j 1).isLt
  refine (tile_xs x r hr g j).trans ?_
  unfold scalesG bandRow
  congr 1
  · exact congrArg _ (Fin.ext (by show r + (j 0).val = r + 1 * (j 0).val; omega))
  · exact Fin.ext (by show g.val = g.val + 1 * (j 1).val; omega)

theorem band512_cover (V : Fin 32 → Vec Ideal S256x128 .fp8e4m3) (r : Nat) (hr : r + 256 ≤ 512) (y : S512x4096.Idx)
    (h : r ≤ (y 0).val ∧ (y 0).val < r + 256) : ∃ p ∈ band512 (F := Ideal) r hr V, y ∈ p.1.set := by
  refine ⟨_, List.mem_map.2 ⟨gOf (y 1), List.mem_reverse.2 (List.mem_finRange _), rfl⟩, (Rect.mem_set_unit (inb := tile_inb r hr (gOf (y 1)))).2 fun a => ?_⟩
  have h1 : (y 1).val < 4096 := (y 1).isLt
  match a with
  | ⟨0, _⟩ => exact h
  | ⟨1, _⟩ => show 128 * ((y 1).val / 128) ≤ (y 1).val ∧ (y 1).val < 128 * ((y 1).val / 128) + 128; omega

theorem bandS_cover (V : Fin 32 → Vec Ideal S256x1 .f32) (r : Nat) (hr : r + 256 ≤ 512) (y : S512x32.Idx)
    (h : r ≤ (y 0).val ∧ (y 0).val < r + 256) : ∃ p ∈ bandS (F := Ideal) r hr V, y ∈ p.1.set := by
  refine ⟨_, List.mem_map.2 ⟨y 1, List.mem_reverse.2 (List.mem_finRange _), rfl⟩, (Rect.mem_set_unit (inb := scale_inb r hr (y 1))).2 fun a => ?_⟩
  match a with
  | ⟨0, _⟩ => exact h
  | ⟨1, _⟩ => show (y 1).val ≤ (y 1).val ∧ (y 1).val < (y 1).val + 1; omega

theorem codesL_computes (x : Vec Ideal S512x4096 .bf16) : Computes (codesL (F := Ideal) x) (codesG x) := by
  refine ⟨fun p hp => ?_, fun y => ?_⟩
  · rcases List.mem_append.1 hp with h | h
    · exact band512_codes x 256 (by decide) p h
    · exact band512_codes x 0 (by decide) p h
  · have h0 : (y 0).val < 512 := (y 0).isLt
    by_cases h : 256 ≤ (y 0).val
    · obtain ⟨p, hp, hy⟩ := band512_cover (fun g => codesQ (tile x 256 (by decide) g)) 256 (by decide) y ⟨h, by omega⟩
      exact ⟨p, List.mem_append_left _ hp, hy⟩
    · obtain ⟨p, hp, hy⟩ := band512_cover (fun g => codesQ (tile x 0 (by decide) g)) 0 (by decide) y ⟨by omega, by omega⟩
      exact ⟨p, List.mem_append_right _ hp, hy⟩

theorem scalesL_computes (x : Vec Ideal S512x4096 .bf16) : Computes (scalesL (F := Ideal) x) (scalesG x) := by
  refine ⟨fun p hp => ?_, fun y => ?_⟩
  · rcases List.mem_append.1 hp with h | h
    · exact bandS_scales x 256 (by decide) p h
    · exact bandS_scales x 0 (by decide) p h
  · have h0 : (y 0).val < 512 := (y 0).isLt
    by_cases h : 256 ≤ (y 0).val
    · obtain ⟨p, hp, hy⟩ := bandS_cover (fun g => xsQ (tile x 256 (by decide) g)) 256 (by decide) y ⟨h, by omega⟩
      exact ⟨p, List.mem_append_left _ hp, hy⟩
    · obtain ⟨p, hp, hy⟩ := bandS_cover (fun g => xsQ (tile x 0 (by decide) g)) 0 (by decide) y ⟨by omega, by omega⟩
      exact ⟨p, List.mem_append_right _ hp, hy⟩

theorem xaL_computes (x : Vec Ideal S512x4096 .bf16) (r : Nat) (hr : r + 256 ≤ 512) :
    Computes (xaL (F := Ideal) x r hr) (xaG x r hr) := by
  refine ⟨fun p hp j => ?_, fun y => ?_⟩
  · obtain ⟨g, _, rfl⟩ := List.mem_map.1 hp
    have h1 : (j 1).val < 128 := (j 1).isLt
    refine (tile_xa x r hr g j ⟨128 * g.val + (j 1).val, by have := g.isLt; omega⟩ rfl).trans ?_
    unfold xaG
    congr 1
    · exact congrArg _ (Fin.ext (by show (j 0).val = 0 + 1 * (j 0).val; omega))
    · exact Fin.ext (by show 128 * g.val + (j 1).val = 128 * g.val + 1 * (j 1).val; omega)
  · refine ⟨_, List.mem_map.2 ⟨gOf (y 1), List.mem_reverse.2 (List.mem_finRange _), rfl⟩, (Rect.mem_set_unit (inb := band_inb (gOf (y 1)))).2 fun a => ?_⟩
    have h0 : (y 0).val < 256 := (y 0).isLt
    have h1 : (y 1).val < 4096 := (y 1).isLt
    match a with
    | ⟨0, _⟩ => show 0 ≤ (y 0).val ∧ (y 0).val < 0 + 256; omega
    | ⟨1, _⟩ => show 128 * ((y 1).val / 128) ≤ (y 1).val ∧ (y 1).val < 128 * ((y 1).val / 128) + 128; omega

/-! ## The products -/

theorem pay316_apply (xa : Vec Ideal S256x4096 .bf16) (w : Vec Ideal S4096x512 .bf16) (j : S256x512.Idx) :
    k0_pay316 (F := Ideal) xa w j = ∑ k : Fin 4096, xa (ix2 (j 0) k) * w (ix2 k (j 1)) := by
  unfold k0_pay316
  refine (congrFun (shapeCast_self _ _) j).trans ?_
  refine (Ideal.matmul_apply₁_of dot_S256x4096_S4096x512_S256x512_1_0_0_1_n_n (a := 1) rfl (K := 4096) rfl xa w
    (constant (F := Ideal) S256x512 .f32 0x00000000#32) j (fun k => ix2 (j 0) k) (fun k => ix2 k (j 1)) ?_ ?_).trans ?_
  · intro k; exact Shape.idx_ext₂ rfl rfl
  · intro k; exact Shape.idx_ext₂ rfl rfl
  · show Ideal.ofBits .f32 0x00000000#32 + _ = _
    rw [Ideal.ofBits_zero_f32, zero_add]

theorem pay321_apply (xa : Vec Ideal S256x4096 .bf16) (w : Vec Ideal S64x4096 .bf16) (j : S64x256.Idx) :
    k0_pay321 (F := Ideal) xa w j = ∑ k : Fin 4096, w (ix2 (j 0) k) * xa (ix2 (j 1) k) := by
  unfold k0_pay321
  refine (congrFun (shapeCast_self _ _) j).trans ?_
  refine (Ideal.matmul_apply₁_of dot_S64x4096_S256x4096_S64x256_1_1_0_0_n_n (a := 1) rfl (K := 4096) rfl w xa
    (constant (F := Ideal) S64x256 .f32 0x00000000#32) j (fun k => ix2 (j 0) k) (fun k => ix2 (j 1) k) ?_ ?_).trans ?_
  · intro k; exact Shape.idx_ext₂ rfl rfl
  · intro k; exact Shape.idx_ext₂ rfl rfl
  · show Ideal.ofBits .f32 0x00000000#32 + _ = _
    rw [Ideal.ofBits_zero_f32, zero_add]

theorem yL_computes (xa : Vec Ideal S256x4096 .bf16) (w : Vec Ideal S4096x2048 .bf16) :
    Computes (yL (F := Ideal) xa w) (yG xa w) := by
  refine ⟨fun p hp j => ?_, fun y => ?_⟩
  · obtain ⟨n, _, rfl⟩ := List.mem_map.1 hp
    refine (pay316_apply _ _ j).trans ?_
    unfold yG
    refine Finset.sum_congr rfl fun k _ => ?_
    congr 1
    · exact congrArg xa (Shape.idx_ext₂ (by show (j 0).val = 0 + 1 * (j 0).val; omega) rfl)
    · unfold View.ld
      exact congrArg w (Shape.idx_ext₂ (by show 0 + 1 * k.val = k.val; omega)
        (by show 512 * n.val + 1 * (j 1).val = 512 * n.val + 1 * (j 1).val; rfl))
  · have h0 : (y 0).val < 256 := (y 0).isLt
    have h1 : (y 1).val < 2048 := (y 1).isLt
    refine ⟨_, List.mem_map.2 ⟨⟨(y 1).val / 512, by omega⟩, List.mem_reverse.2 (List.mem_finRange _), rfl⟩, (Rect.mem_set_unit (inb := y_inb ⟨(y 1).val / 512, by omega⟩)).2 fun a => ?_⟩
    match a with
    | ⟨0, _⟩ => show 0 ≤ (y 0).val ∧ (y 0).val < 0 + 256; omega
    | ⟨1, _⟩ => show 512 * ((y 1).val / 512) ≤ (y 1).val ∧ (y 1).val < 512 * ((y 1).val / 512) + 512; omega

theorem kpL_computes (xa : Vec Ideal S256x4096 .bf16) (w : Vec Ideal S64x4096 .bf16) :
    Computes (kpL (F := Ideal) xa w) (kpG xa w) := by
  refine ⟨fun p hp j => ?_, fun y => ⟨_, List.mem_singleton.2 rfl, (Rect.mem_set_unit (inb := inb_S64x256_S64x256_0_0)).2 fun a => ?_⟩⟩
  · obtain rfl := List.mem_singleton.1 hp
    refine (pay321_apply _ _ j).trans ?_
    unfold kpG
    refine Finset.sum_congr rfl fun k _ => ?_
    congr 1
    · exact congrArg w (Shape.idx_ext₂ (by show (j 0).val = 0 + 1 * (j 0).val; omega) rfl)
    · exact congrArg xa (Shape.idx_ext₂ (by show (j 1).val = 0 + 1 * (j 1).val; omega) rfl)
  · have h0 : (y 0).val < 64 := (y 0).isLt
    have h1 : (y 1).val < 256 := (y 1).isLt
    match a with
    | ⟨0, _⟩ => show 0 ≤ (y 0).val ∧ (y 0).val < 0 + 64; omega
    | ⟨1, _⟩ => show 0 ≤ (y 1).val ∧ (y 1).val < 0 + 256; omega

/-! ## The normalised parts -/

def qG (ya yb : Vec Ideal S256x2048 .f32) (g : Vec Ideal S1x1536 .bf16) : Vec Ideal S512x1536 .bf16 := fun y =>
  normAt 0x44C00000#32 (fun k : Fin 1536 => halves ya yb (y 0) ⟨k.val, by have := k.isLt; omega⟩) (rowOf g (0 : Fin 1)) (y 1)
def cG (ya yb : Vec Ideal S256x2048 .f32) (g : Vec Ideal S1x512 .bf16) : Vec Ideal S512x512 .bf16 := fun y =>
  normAt 0x44000000#32 (fun k : Fin 512 => halves ya yb (y 0) ⟨1536 + k.val, by have := k.isLt; omega⟩) (rowOf g (0 : Fin 1)) (y 1)
def kG (ka kb : Vec Ideal S64x256 .f32) : Vec Ideal S512x64 .bf16 := fun y =>
  if h : (y 0).val < 256 then ka (ix2 (y 1) ⟨(y 0).val, h⟩)
  else kb (ix2 (y 1) ⟨(y 0).val - 256, by have : (y 0).val < 512 := (y 0).isLt; omega⟩)

theorem pay913_apply (v : Vec Ideal S256x1536 .f32) (g : Vec Ideal S1x1536 .bf16) (j : S256x1536.Idx) :
    k0_pay913 (F := Ideal) v g j = normAt 0x44C00000#32 (rowOf v (j 0)) (rowOf g (0 : Fin 1)) (j 1) := by
  unfold k0_pay913
  have e : ∀ (y : S256.Idx → EReal), shapeCast S256x1 y shapeCasts_S256_S256x1 (ix2 (j 0) 0) = y (ix1 (j 0)) := fun y =>
    shapeCast_apply _ _ _ _ (by rw [Shape.rowMajor_val_two, Shape.rowMajor_val_one]; show (j 0).val = (j 0).val * 1 + 0; omega)
  have hb : ∀ (y : S256x1.Idx → EReal), broadcastTo S256x1536 y broadcasts_S256x1_S256x1536 j = y (ix2 (j 0) 0) := fun y =>
    broadcastTo_apply _ _ j (ix2 (j 0) 0 : S256x1.Idx) (by intro a; match a with | ⟨0, _⟩ => rfl | ⟨1, _⟩ => rfl)
  have hg : ∀ (y : S1x1536.Idx → EReal), broadcastTo S256x1536 y broadcasts_S1x1536_S256x1536 j = y (ix2 0 (j 1)) := fun y =>
    broadcastTo_apply _ _ j (ix2 0 (j 1) : S1x1536.Idx) (by intro a; match a with | ⟨0, _⟩ => rfl | ⟨1, _⟩ => rfl)
  have hs : multiReduction (F := Ideal) (φ := .f32) .add [1] S256 (mulf v v) 0x00000000#32 reduces_S256x1536_S256 (.inl rfl) rfl (ix1 (j 0))
      = ∑ k : Fin 1536, rowOf v (j 0) k * rowOf v (j 0) k := by
    refine (Ideal.multiReduction_add_single _ _ _ _ _ _).trans ?_
    refine Finset.sum_congr rfl fun k _ => ?_
    have e : reduces_S256x1536_S256.lift (ix1 (j 0)) k = ix2 (j 0) k :=
      Shape.idx_ext₂ (by rw [Shape.Reduces.lift_val]; rfl) (by rw [Shape.Reduces.lift_val]; rfl)
    show v (reduces_S256x1536_S256.lift (ix1 (j 0)) k) * v (reduces_S256x1536_S256.lift (ix1 (j 0)) k) = _
    rw [e]; rfl
  show v j * broadcastTo S256x1536 _ broadcasts_S256x1_S256x1536 j * broadcastTo S256x1536 _ broadcasts_S1x1536_S256x1536 j = _
  rw [hb, hg]
  show v j * Ideal.rsqrt (Ideal.div (shapeCast S256x1 _ shapeCasts_S256_S256x1 (ix2 (j 0) 0)) _ + _)
    * shapeCast S1x1536 g shapeCasts_S1x1536_S1x1536 (ix2 0 (j 1)) = _
  rw [e, shapeCast_self, hs]
  unfold normAt
  exact congrArg (· * _ * _) (congrArg v (eq_ix2 j))

theorem pay914_apply (v : Vec Ideal S256x512 .f32) (g : Vec Ideal S1x512 .bf16) (j : S256x512.Idx) :
    k0_pay914 (F := Ideal) v g j = normAt 0x44000000#32 (rowOf v (j 0)) (rowOf g (0 : Fin 1)) (j 1) := by
  unfold k0_pay914
  have e : ∀ (y : S256.Idx → EReal), shapeCast S256x1 y shapeCasts_S256_S256x1 (ix2 (j 0) 0) = y (ix1 (j 0)) := fun y =>
    shapeCast_apply _ _ _ _ (by rw [Shape.rowMajor_val_two, Shape.rowMajor_val_one]; show (j 0).val = (j 0).val * 1 + 0; omega)
  have hb : ∀ (y : S256x1.Idx → EReal), broadcastTo S256x512 y broadcasts_S256x1_S256x512 j = y (ix2 (j 0) 0) := fun y =>
    broadcastTo_apply _ _ j (ix2 (j 0) 0 : S256x1.Idx) (by intro a; match a with | ⟨0, _⟩ => rfl | ⟨1, _⟩ => rfl)
  have hg : ∀ (y : S1x512.Idx → EReal), broadcastTo S256x512 y broadcasts_S1x512_S256x512 j = y (ix2 0 (j 1)) := fun y =>
    broadcastTo_apply _ _ j (ix2 0 (j 1) : S1x512.Idx) (by intro a; match a with | ⟨0, _⟩ => rfl | ⟨1, _⟩ => rfl)
  have hs : multiReduction (F := Ideal) (φ := .f32) .add [1] S256 (mulf v v) 0x00000000#32 reduces_S256x512_S256 (.inl rfl) rfl (ix1 (j 0))
      = ∑ k : Fin 512, rowOf v (j 0) k * rowOf v (j 0) k := by
    refine (Ideal.multiReduction_add_single _ _ _ _ _ _).trans ?_
    refine Finset.sum_congr rfl fun k _ => ?_
    have e : reduces_S256x512_S256.lift (ix1 (j 0)) k = ix2 (j 0) k :=
      Shape.idx_ext₂ (by rw [Shape.Reduces.lift_val]; rfl) (by rw [Shape.Reduces.lift_val]; rfl)
    show v (reduces_S256x512_S256.lift (ix1 (j 0)) k) * v (reduces_S256x512_S256.lift (ix1 (j 0)) k) = _
    rw [e]; rfl
  show v j * broadcastTo S256x512 _ broadcasts_S256x1_S256x512 j * broadcastTo S256x512 _ broadcasts_S1x512_S256x512 j = _
  rw [hb, hg]
  show v j * Ideal.rsqrt (Ideal.div (shapeCast S256x1 _ shapeCasts_S256_S256x1 (ix2 (j 0) 0)) _ + _)
    * shapeCast S1x512 g shapeCasts_S1x512_S1x512 (ix2 0 (j 1)) = _
  rw [e, shapeCast_self, hs]
  unfold normAt
  exact congrArg (· * _ * _) (congrArg v (eq_ix2 j))

theorem pay915_apply (v : Vec Ideal S64x256 .f32) (j : S256x64.Idx) : k0_pay915 (F := Ideal) v j = v (ix2 (j 1) (j 0)) := by
  unfold k0_pay915
  exact transpose_apply _ _ _ j (ix2 (j 1) (j 0) : S64x256.Idx) (by intro b; match b with | ⟨0, _⟩ => rfl | ⟨1, _⟩ => rfl)

theorem halves_lo (ya yb : Vec Ideal S256x2048 .f32) (i : Fin 512) (c : Fin 2048) (i' : Fin 256) (h : i.val = i'.val) :
    halves ya yb i c = ya (ix2 i' c) := by
  unfold halves
  rw [dif_pos (by have := i'.isLt; omega)]
  exact congrArg ya (Shape.idx_ext₂ h rfl)

theorem halves_hi (ya yb : Vec Ideal S256x2048 .f32) (i : Fin 512) (c : Fin 2048) (i' : Fin 256) (h : i.val = 256 + i'.val) :
    halves ya yb i c = yb (ix2 i' c) := by
  unfold halves
  rw [dif_neg (by omega)]
  exact congrArg yb (Shape.idx_ext₂ (by show i.val - 256 = i'.val; omega) rfl)

theorem qL_computes (ya yb : Vec Ideal S256x2048 .f32) (g : Vec Ideal S1x1536 .bf16) :
    Computes (qL (F := Ideal) ya yb g) (qG ya yb g) := by
  have hgw : rowOf (wholeGq g) (0 : Fin 1) = rowOf g (0 : Fin 1) := funext fun k =>
    congrArg g (Shape.idx_ext₂ rfl (by show 0 + 1 * k.val = k.val; omega))
  refine ⟨fun p hp j => ?_, fun y => ?_⟩
  · have hj : (j 1).val = 0 + 1 * (j 1).val := by omega
    rcases List.mem_cons.1 hp with rfl | hp
    · refine (pay913_apply _ _ j).trans ?_
      unfold qG
      rw [hgw]
      congr 1
      · funext k
        refine Eq.trans ?_ (halves_hi ya yb _ _ (j 0) (by show 256 + 1 * (j 0).val = _; omega)).symm
        exact congrArg yb (Shape.idx_ext₂ (by show 0 + 1 * (j 0).val = (j 0).val; omega) (by show 0 + 1 * k.val = k.val; omega))
      · exact Fin.ext hj
    · obtain rfl := List.mem_singleton.1 hp
      refine (pay913_apply _ _ j).trans ?_
      unfold qG
      rw [hgw]
      congr 1
      · funext k
        refine Eq.trans ?_ (halves_lo ya yb _ _ (j 0) (by show 0 + 1 * (j 0).val = _; omega)).symm
        exact congrArg ya (Shape.idx_ext₂ (by show 0 + 1 * (j 0).val = (j 0).val; omega) (by show 0 + 1 * k.val = k.val; omega))
      · exact Fin.ext hj
  · have h0 : (y 0).val < 512 := (y 0).isLt
    have h1 : (y 1).val < 1536 := (y 1).isLt
    by_cases h : 256 ≤ (y 0).val
    · refine ⟨_, List.mem_cons_self, (Rect.mem_set_unit (inb := inb_S512x1536_S256x1536_256_0)).2 fun a => ?_⟩
      match a with
      | ⟨0, _⟩ => show 256 ≤ (y 0).val ∧ (y 0).val < 256 + 256; omega
      | ⟨1, _⟩ => show 0 ≤ (y 1).val ∧ (y 1).val < 0 + 1536; omega
    · refine ⟨_, List.mem_cons_of_mem _ List.mem_cons_self, (Rect.mem_set_unit (inb := inb_S512x1536_S256x1536_0_0)).2 fun a => ?_⟩
      match a with
      | ⟨0, _⟩ => show 0 ≤ (y 0).val ∧ (y 0).val < 0 + 256; omega
      | ⟨1, _⟩ => show 0 ≤ (y 1).val ∧ (y 1).val < 0 + 1536; omega

theorem cL_computes (ya yb : Vec Ideal S256x2048 .f32) (g : Vec Ideal S1x512 .bf16) :
    Computes (cL (F := Ideal) ya yb g) (cG ya yb g) := by
  have hgw : rowOf (wholeGc g) (0 : Fin 1) = rowOf g (0 : Fin 1) := funext fun k =>
    congrArg g (Shape.idx_ext₂ rfl (by show 0 + 1 * k.val = k.val; omega))
  refine ⟨fun p hp j => ?_, fun y => ?_⟩
  · have hj : (j 1).val = 0 + 1 * (j 1).val := by omega
    rcases List.mem_cons.1 hp with rfl | hp
    · refine (pay914_apply _ _ j).trans ?_
      unfold cG
      rw [hgw]
      congr 1
      · funext k
        refine Eq.trans ?_ (halves_hi ya yb _ _ (j 0) (by show 256 + 1 * (j 0).val = _; omega)).symm
        exact congrArg yb (Shape.idx_ext₂ (by show 0 + 1 * (j 0).val = (j 0).val; omega) (by show 1536 + 1 * k.val = 1536 + k.val; omega))
      · exact Fin.ext hj
    · obtain rfl := List.mem_singleton.1 hp
      refine (pay914_apply _ _ j).trans ?_
      unfold cG
      rw [hgw]
      congr 1
      · funext k
        refine Eq.trans ?_ (halves_lo ya yb _ _ (j 0) (by show 0 + 1 * (j 0).val = _; omega)).symm
        exact congrArg ya (Shape.idx_ext₂ (by show 0 + 1 * (j 0).val = (j 0).val; omega) (by show 1536 + 1 * k.val = 1536 + k.val; omega))
      · exact Fin.ext hj
  · have h0 : (y 0).val < 512 := (y 0).isLt
    have h1 : (y 1).val < 512 := (y 1).isLt
    by_cases h : 256 ≤ (y 0).val
    · refine ⟨_, List.mem_cons_self, (Rect.mem_set_unit (inb := inb_S512x512_S256x512_256_0)).2 fun a => ?_⟩
      match a with
      | ⟨0, _⟩ => show 256 ≤ (y 0).val ∧ (y 0).val < 256 + 256; omega
      | ⟨1, _⟩ => show 0 ≤ (y 1).val ∧ (y 1).val < 0 + 512; omega
    · refine ⟨_, List.mem_cons_of_mem _ List.mem_cons_self, (Rect.mem_set_unit (inb := inb_S512x512_S256x512_0_0)).2 fun a => ?_⟩
      match a with
      | ⟨0, _⟩ => show 0 ≤ (y 0).val ∧ (y 0).val < 0 + 256; omega
      | ⟨1, _⟩ => show 0 ≤ (y 1).val ∧ (y 1).val < 0 + 512; omega

theorem kL_computes (ka kb : Vec Ideal S64x256 .f32) : Computes (kL (F := Ideal) ka kb) (kG ka kb) := by
  refine ⟨fun p hp j => ?_, fun y => ?_⟩
  · rcases List.mem_cons.1 hp with rfl | hp
    · refine (pay915_apply _ j).trans ?_
      unfold kG
      rw [dif_neg (by show ¬ 256 + 1 * (j 0).val < 256; omega)]
      exact congrArg kb (Shape.idx_ext₂ (by show 0 + 1 * (j 1).val = 0 + 1 * (j 1).val; rfl)
        (by show 0 + 1 * (j 0).val = 256 + 1 * (j 0).val - 256; omega))
    · obtain rfl := List.mem_singleton.1 hp
      refine (pay915_apply _ j).trans ?_
      unfold kG
      have h0 : (j 0).val < 256 := (j 0).isLt
      rw [dif_pos (by show 0 + 1 * (j 0).val < 256; omega)]
      exact congrArg ka (Shape.idx_ext₂ (by show 0 + 1 * (j 1).val = 0 + 1 * (j 1).val; rfl)
        (by show 0 + 1 * (j 0).val = 0 + 1 * (j 0).val; rfl))
  · have h0 : (y 0).val < 512 := (y 0).isLt
    have h1 : (y 1).val < 64 := (y 1).isLt
    by_cases h : 256 ≤ (y 0).val
    · refine ⟨_, List.mem_cons_self, (Rect.mem_set_unit (inb := inb_S512x64_S256x64_256_0)).2 fun a => ?_⟩
      match a with
      | ⟨0, _⟩ => show 256 ≤ (y 0).val ∧ (y 0).val < 256 + 256; omega
      | ⟨1, _⟩ => show 0 ≤ (y 1).val ∧ (y 1).val < 0 + 64; omega
    · refine ⟨_, List.mem_cons_of_mem _ List.mem_cons_self, (Rect.mem_set_unit (inb := inb_S512x64_S256x64_0_0)).2 fun a => ?_⟩
      match a with
      | ⟨0, _⟩ => show 0 ≤ (y 0).val ∧ (y 0).val < 0 + 256; omega
      | ⟨1, _⟩ => show 0 ≤ (y 1).val ∧ (y 1).val < 0 + 64; omega

end Cert.Mla

end
-- ==== Proof.Mla.Weights.lean ====
/-
  What the loop that prepares the weights leaves: every weight times its block's scale, transposed for the first 2048
  rows and as it stands for the last 64.
-/
module

public import proofs.«01_k».proof.Proof.Mla.Block

@[expose] public section

set_option maxRecDepth 8192

noncomputable section

namespace Cert.Mla

open Idealize.ShloMosaic hiding ix1 ix2 eq_ix2
open Idealize.ShloMosaic.TcCoe Idealize.ShloMosaic.Tactic Idealize.ShloMosaic.ValueIdx
open Cert.KernelIdeal Cert.KernelIdeal.Gen

/-! ## Where a trip reads and writes -/

/-- The scales' offsets, one per block of 128 weight rows. -/
def offS : Fin 17 → Fin k0_t1_loop.trips → Fin 2 → Nat := ![k0_off1, k0_off4, k0_off7, k0_off10, k0_off13, k0_off16, k0_off19, k0_off22, k0_off25, k0_off28, k0_off31, k0_off34, k0_off37, k0_off40, k0_off43, k0_off46, k0_off49]
/-- The weights' offsets. -/
def offW : Fin 16 → Fin k0_t1_loop.trips → Fin 2 → Nat := ![k0_off2, k0_off5, k0_off8, k0_off11, k0_off14, k0_off17, k0_off20, k0_off23, k0_off26, k0_off29, k0_off32, k0_off35, k0_off38, k0_off41, k0_off44, k0_off47]
/-- The transposed weights' offsets. -/
def offT : Fin 16 → Fin k0_t1_loop.trips → Fin 2 → Nat := ![k0_off3, k0_off6, k0_off9, k0_off12, k0_off15, k0_off18, k0_off21, k0_off24, k0_off27, k0_off30, k0_off33, k0_off36, k0_off39, k0_off42, k0_off45, k0_off48]

theorem trips_eq : k0_t1_loop.trips = 32 := by decide +kernel

theorem offS_eq : ∀ (n : Fin 17) (k : Fin k0_t1_loop.trips), offS n k = ![n.val, k.val] := by decide +kernel
theorem offW_eq : ∀ (n : Fin 16) (k : Fin k0_t1_loop.trips), offW n k = ![128 * n.val, 128 * k.val] := by decide +kernel
theorem offT_eq : ∀ (n : Fin 16) (k : Fin k0_t1_loop.trips), offT n k = ![128 * k.val, 128 * n.val] := by decide +kernel
theorem offWp_eq : ∀ k : Fin k0_t1_loop.trips, k0_off50 k = ![2048, 128 * k.val] := by decide +kernel
theorem offP_eq : ∀ k : Fin k0_t1_loop.trips, k0_off51 k = ![0, 128 * k.val] := by decide +kernel

theorem trip_lt (k : Fin k0_t1_loop.trips) : k.val < 32 := lt_of_lt_of_eq k.isLt trips_eq

theorem offS_inb (n : Fin 17) (k : Fin k0_t1_loop.trips) (a : Fin S17x32.rank) : offS n k a + S1x1.size a ≤ S17x32.size a := by
  rw [offS_eq]; have := n.isLt; have := trip_lt k
  match a with
  | ⟨0, _⟩ => show n.val + 1 ≤ 17; omega
  | ⟨1, _⟩ => show k.val + 1 ≤ 32; omega
theorem offW_inb (n : Fin 16) (k : Fin k0_t1_loop.trips) (a : Fin S2112x4096.rank) : offW n k a + S128x128.size a ≤ S2112x4096.size a := by
  rw [offW_eq]; have := n.isLt; have := trip_lt k
  match a with
  | ⟨0, _⟩ => show 128 * n.val + 128 ≤ 2112; omega
  | ⟨1, _⟩ => show 128 * k.val + 128 ≤ 4096; omega
theorem offT_inb (n : Fin 16) (k : Fin k0_t1_loop.trips) (a : Fin S4096x2048.rank) : offT n k a + S128x128.size a ≤ S4096x2048.size a := by
  rw [offT_eq]; have := n.isLt; have := trip_lt k
  match a with
  | ⟨0, _⟩ => show 128 * k.val + 128 ≤ 4096; omega
  | ⟨1, _⟩ => show 128 * n.val + 128 ≤ 2048; omega
theorem offWp_inb (k : Fin k0_t1_loop.trips) (a : Fin S2112x4096.rank) : k0_off50 k a + S64x128.size a ≤ S2112x4096.size a := by
  rw [offWp_eq]; have := trip_lt k
  match a with
  | ⟨0, _⟩ => show 2048 + 64 ≤ 2112; omega
  | ⟨1, _⟩ => show 128 * k.val + 128 ≤ 4096; omega
theorem offP_inb (k : Fin k0_t1_loop.trips) (a : Fin S64x4096.rank) : k0_off51 k a + S64x128.size a ≤ S64x4096.size a := by
  rw [offP_eq]; have := trip_lt k
  match a with
  | ⟨0, _⟩ => show 0 + 64 ≤ 64; omega
  | ⟨1, _⟩ => show 128 * k.val + 128 ≤ 4096; omega

variable {F : FTy → Type} [FloatOps F]

/-- The scale a trip reads for one block of rows. -/
def wsAt (ws : Vec F S17x32 .f32) (n : Fin 17) (k : Fin k0_t1_loop.trips) : Elt F .f32 :=
  View.ld ws (Rect.unit (s := S17x32) (offS n k) S1x1.size (offS_inb n k)) (Shape.Idx.first (Nat.lt_of_lt_of_eq Nat.one_pos numel1_S1x1.symm))

/-- One trip's pieces of the transposed weights, the last block of rows first. -/
def wtTrip (ws : Vec F S17x32 .f32) (w : Vec F S2112x4096 .fp8e4m3) (k : Fin k0_t1_loop.trips) : List (View.Piece (Elt F) S4096x2048 .bf16) :=
  (List.finRange 16).reverse.map fun n => ⟨Rect.unit (s := S4096x2048) (offT n k) S128x128.size (offT_inb n k),
    k0_pay3 (wsAt ws n.castSucc k) (View.ld w (Rect.unit (s := S2112x4096) (offW n k) S128x128.size (offW_inb n k)))⟩

/-- One trip's piece of the last 64 weight rows. -/
def wpTrip (ws : Vec F S17x32 .f32) (w : Vec F S2112x4096 .fp8e4m3) (k : Fin k0_t1_loop.trips) : List (View.Piece (Elt F) S64x4096 .bf16) :=
  [⟨Rect.unit (s := S64x4096) (k0_off51 k) S64x128.size (offP_inb k),
    k0_pay23 (wsAt ws 16 k) (View.ld w (Rect.unit (s := S2112x4096) (k0_off50 k) S64x128.size (offWp_inb k)))⟩]

section Trip

variable (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt F) arg1.view.ty) (X_arg3 : BufTy.Contents (Elt F) arg3.view.ty)

theorem tripL_wt (k : Fin k0_t1_loop.trips) : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).1 = wtTrip (arg1.view.read (Elt F) X_arg1) (arg3.view.read (Elt F) X_arg3) k := by
  sl_kernel_rfl

theorem tripL_wp (k : Fin k0_t1_loop.trips) : (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k).2 = wpTrip (arg1.view.read (Elt F) X_arg1) (arg3.view.read (Elt F) X_arg3) k := by
  sl_kernel_rfl

/-- The pieces of the first `n` trips are those trips' pieces. -/
theorem pb_mem (n : Nat) (hn : n ≤ k0_t1_loop.trips) :
    (∀ p, p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 n).1 ↔ ∃ k : Fin k0_t1_loop.trips, k.val < n ∧ p ∈ wtTrip (arg1.view.read (Elt F) X_arg1) (arg3.view.read (Elt F) X_arg3) k)
    ∧ (∀ p, p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 n).2 ↔ ∃ k : Fin k0_t1_loop.trips, k.val < n ∧ p ∈ wpTrip (arg1.view.read (Elt F) X_arg1) (arg3.view.read (Elt F) X_arg3) k) := by
  induction n with
  | zero =>
    constructor
    · intro p
      exact ⟨fun h => (by cases h), fun ⟨k, h, _⟩ => absurd h (Nat.not_lt_zero _)⟩
    · intro p
      exact ⟨fun h => (by cases h), fun ⟨k, h, _⟩ => absurd h (Nat.not_lt_zero _)⟩
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 ⟨n, hn⟩
    have ih := ih (Nat.le_of_succ_le hn)
    constructor
    · intro p
      rw [e, tripL_wt]
      show p ∈ _ ++ _ ↔ _
      rw [List.mem_append, ih.1 p]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.1 hk with hlt | heq
        · exact Or.inr ⟨k, hlt, h⟩
        · obtain rfl : k = ⟨n, hn⟩ := Fin.ext heq
          exact Or.inl h
    · intro p
      rw [e, tripL_wp]
      show p ∈ _ ++ _ ↔ _
      rw [List.mem_append, ih.2 p]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.1 hk with hlt | heq
        · exact Or.inr ⟨k, hlt, h⟩
        · obtain rfl : k = ⟨n, hn⟩ := Fin.ext heq
          exact Or.inl h

end Trip

/-! ## The weights -/

def wtG (ws : Vec Ideal S17x32 .f32) (w : Vec Ideal S2112x4096 .fp8e4m3) : Vec Ideal S4096x2048 .bf16 := fun y =>
  w (ix2 (⟨(y 1).val, by have : (y 1).val < 2048 := (y 1).isLt; omega⟩ : Fin 2112) (y 0))
    * ws (ix2 (⟨(y 1).val / 128, by have : (y 1).val < 2048 := (y 1).isLt; omega⟩ : Fin 17) (gOf (y 0)))
def wpG (ws : Vec Ideal S17x32 .f32) (w : Vec Ideal S2112x4096 .fp8e4m3) : Vec Ideal S64x4096 .bf16 := fun y =>
  w (ix2 (⟨2048 + (y 0).val, by have : (y 0).val < 64 := (y 0).isLt; omega⟩ : Fin 2112) (y 1)) * ws (ix2 16 (gOf (y 1)))

theorem wsAt_eq (ws : Vec Ideal S17x32 .f32) (n : Fin 17) (k : Fin k0_t1_loop.trips) :
    wsAt (F := Ideal) ws n k = ws (ix2 n ⟨k.val, trip_lt k⟩) := by
  unfold wsAt View.ld
  refine congrArg ws (Shape.idx_ext₂ ?_ ?_)
  · show offS n k 0 + 1 * 0 = n.val; rw [offS_eq]; rfl
  · show offS n k 1 + 1 * 0 = k.val; rw [offS_eq]; rfl

theorem wtTrip_value (ws : Vec Ideal S17x32 .f32) (w : Vec Ideal S2112x4096 .fp8e4m3) (k : Fin k0_t1_loop.trips) :
    ∀ p ∈ wtTrip (F := Ideal) ws w k, ∀ j, p.2 j = wtG ws w (p.1.emb j) := by
  intro p hp j
  obtain ⟨n, _, rfl⟩ := List.mem_map.1 hp
  have h0 : (j 0).val < 128 := (j 0).isLt
  have h1 : (j 1).val < 128 := (j 1).isLt
  have e0 : offT n k 0 = 128 * k.val := by rw [offT_eq]; rfl
  have e1 : offT n k 1 = 128 * n.val := by rw [offT_eq]; rfl
  have f0 : offW n k 0 = 128 * n.val := by rw [offW_eq]; rfl
  have f1 : offW n k 1 = 128 * k.val := by rw [offW_eq]; rfl
  show k0_pay3 _ _ j = _
  unfold k0_pay3
  refine (congrFun (shapeCast_self _ _) j).trans ?_
  refine (transpose_apply _ _ _ j (ix2 (j 1) (j 0) : S128x128.Idx) (by intro b; match b with | ⟨0, _⟩ => rfl | ⟨1, _⟩ => rfl)).trans ?_
  show View.ld w (Rect.unit (s := S2112x4096) (offW n k) S128x128.size (offW_inb n k)) (ix2 (j 1) (j 0) : S128x128.Idx) * wsAt ws n.castSucc k = _
  rw [wsAt_eq]
  unfold wtG View.ld
  congr 1
  · refine congrArg w (Shape.idx_ext₂ ?_ ?_)
    · show offW n k 0 + 1 * (j 1).val = offT n k 1 + 1 * (j 1).val; rw [f0, e1]
    · show offW n k 1 + 1 * (j 0).val = offT n k 0 + 1 * (j 0).val; rw [f1, e0]
  · refine congrArg ws (Shape.idx_ext₂ ?_ ?_)
    · show n.val = (offT n k 1 + 1 * (j 1).val) / 128; rw [e1]; omega
    · show k.val = (offT n k 0 + 1 * (j 0).val) / 128; rw [e0]; omega

theorem wpTrip_value (ws : Vec Ideal S17x32 .f32) (w : Vec Ideal S2112x4096 .fp8e4m3) (k : Fin k0_t1_loop.trips) :
    ∀ p ∈ wpTrip (F := Ideal) ws w k, ∀ j, p.2 j = wpG ws w (p.1.emb j) := by
  intro p hp j
  obtain rfl := List.mem_singleton.1 hp
  have h1 : (j 1).val < 128 := (j 1).isLt
  have e0 : k0_off51 k 0 = 0 := by rw [offP_eq]; rfl
  have e1 : k0_off51 k 1 = 128 * k.val := by rw [offP_eq]; rfl
  have f0 : k0_off50 k 0 = 2048 := by rw [offWp_eq]; rfl
  have f1 : k0_off50 k 1 = 128 * k.val := by rw [offWp_eq]; rfl
  show k0_pay23 _ _ j = _
  unfold k0_pay23
  refine (congrFun (shapeCast_self _ _) j).trans ?_
  show View.ld w (Rect.unit (s := S2112x4096) (k0_off50 k) S64x128.size (offWp_inb k)) j * wsAt ws 16 k = _
  rw [wsAt_eq]
  unfold wpG View.ld
  congr 1
  · refine congrArg w (Shape.idx_ext₂ ?_ ?_)
    · show k0_off50 k 0 + 1 * (j 0).val = 2048 + (k0_off51 k 0 + 1 * (j 0).val); rw [f0, e0]; omega
    · show k0_off50 k 1 + 1 * (j 1).val = k0_off51 k 1 + 1 * (j 1).val; rw [f1, e1]
  · refine congrArg ws (Shape.idx_ext₂ rfl ?_)
    show k.val = (k0_off51 k 1 + 1 * (j 1).val) / 128; rw [e1]; omega

section Trips

variable (𝒱 : Variants) (c : Dev nD) (bd : Option 𝒱.V) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (k0_h1 : k0_cond1 i = 1#1) (X_arg1 : BufTy.Contents (Elt Ideal) arg1.view.ty) (X_arg3 : BufTy.Contents (Elt Ideal) arg3.view.ty)

theorem pb_wt : Computes (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k0_t1_loop.trips).1 (wtG (arg1.view.read (Elt Ideal) X_arg1) (arg3.view.read (Elt Ideal) X_arg3)) := by
  have hm := (pb_mem (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k0_t1_loop.trips (Nat.le_refl _)).1
  refine ⟨fun p hp => ?_, fun y => ?_⟩
  · obtain ⟨k, _, h⟩ := (hm p).1 hp
    exact wtTrip_value _ _ k p h
  · have h0 : (y 0).val < 4096 := (y 0).isLt
    have h1 : (y 1).val < 2048 := (y 1).isLt
    have hk : (y 0).val / 128 < k0_t1_loop.trips := by rw [trips_eq]; omega
    have hn : (y 1).val / 128 < 16 := by omega
    refine ⟨_, (hm _).2 ⟨⟨(y 0).val / 128, hk⟩, hk, List.mem_map.2 ⟨⟨(y 1).val / 128, hn⟩, List.mem_reverse.2 (List.mem_finRange _), rfl⟩⟩,
      (Rect.mem_set_unit (inb := offT_inb ⟨(y 1).val / 128, hn⟩ ⟨(y 0).val / 128, hk⟩)).2 fun a => ?_⟩
    rw [offT_eq]
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega

theorem pb_wp : Computes (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k0_t1_loop.trips).2 (wpG (arg1.view.read (Elt Ideal) X_arg1) (arg3.view.read (Elt Ideal) X_arg3)) := by
  have hm := (pb_mem (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 X_arg1 X_arg3 k0_t1_loop.trips (Nat.le_refl _)).2
  refine ⟨fun p hp => ?_, fun y => ?_⟩
  · obtain ⟨k, _, h⟩ := (hm p).1 hp
    exact wpTrip_value _ _ k p h
  · have h0 : (y 0).val < 64 := (y 0).isLt
    have h1 : (y 1).val < 4096 := (y 1).isLt
    have hk : (y 1).val / 128 < k0_t1_loop.trips := by rw [trips_eq]; omega
    refine ⟨_, (hm _).2 ⟨⟨(y 1).val / 128, hk⟩, hk, List.mem_singleton.2 rfl⟩,
      (Rect.mem_set_unit (inb := offP_inb ⟨(y 1).val / 128, hk⟩)).2 fun a => ?_⟩
    rw [offP_eq]
    match a with
    | ⟨0, _⟩ => show 0 ≤ (y 0).val ∧ (y 0).val < 0 + 64; omega
    | ⟨1, _⟩ => show 128 * ((y 1).val / 128) ≤ (y 1).val ∧ (y 1).val < 128 * ((y 1).val / 128) + 128; omega

end Trips

end Cert.Mla

end
-- ==== Proof.Mla.Steps.lean ====
/-
  The kernel's runs over the extended reals, each buffer at the closed form of what it holds: at the first point, at a
  point in the middle, and at the last.
-/
module

public import proofs.«01_k».proof.Proof.Mla.Weights

@[expose] public section

set_option maxRecDepth 8192
set_option pp.oneline true

noncomputable section

namespace Cert.Mla

open Idealize.ShloMosaic hiding ix1 ix2 eq_ix2
open Idealize Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic Idealize.ShloMosaic.ValueIdx
open Cert.KernelIdeal Cert.KernelIdeal.Gen

local notation "𝕄" => MT nD τ sig Unit (Elt Ideal) ℕ (UR sig nD τ) ℕ

theorem wholeXa_eq (x : Vec Ideal S256x4096 .bf16) : wholeXa x = x := funext fun y =>
  congrArg x (Shape.idx_ext₂ (by show 0 + 1 * (y 0).val = (y 0).val; omega) (by show 0 + 1 * (y 1).val = (y 1).val; omega))
theorem wholeWp_eq (x : Vec Ideal S64x4096 .bf16) : wholeWp x = x := funext fun y =>
  congrArg x (Shape.idx_ext₂ (by show 0 + 1 * (y 0).val = (y 0).val; omega) (by show 0 + 1 * (y 1).val = (y 1).val; omega))

/-- A buffer holding pieces that compute `G` holds `G`. -/
theorem named (c : Dev nD) {sp : Space} {s : Shape} {e : EltTy} (arg : Memref sig .tc sp s e) {L : List (View.Piece (Elt Ideal) s e)}
    {G : s.Idx → Elt Ideal e} (h : Computes L G) :
    (iprop(∃ f, arg.view.loc (c : Thread nD τ) ↦[arg.view.set]{fullShare} arg.view.writes (Elt Ideal) f L) : sProp 𝕄)
      ⊢ owns (c : Thread nD τ) arg fullShare G := by
  iintro ⟨%f, H⟩
  unfold owns; iexists _; isplitr
  swap; · iexact H
  ipureintro; exact h.read _ _

theorem step_A (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : cond0_0 i) (hc1 : ¬cond0_1 i) (hc2 : ¬cond0_2 i) (x0 : Vec Ideal S17x32 .f32) (x1 : Vec Ideal S512x4096 .bf16) (x2 : Vec Ideal S2112x4096 .fp8e4m3) (x3 : Vec Ideal S1x1536 .bf16) (x4 : Vec Ideal S1x512 .bf16) (xs0 : Vec Ideal S4096x2048 .bf16) (xs1 : Vec Ideal S64x4096 .bf16) (xs2 : Vec Ideal S256x4096 .bf16) (xs3 : Vec Ideal S256x4096 .bf16) (xs4 : Vec Ideal S256x2048 .f32) (xs5 : Vec Ideal S256x2048 .f32) (xs6 : Vec Ideal S64x256 .f32) (xs7 : Vec Ideal S64x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ owns (c : Thread nD τ) arg17 fullShare xs6 ∗ owns (c : Thread nD τ) arg18 fullShare xs7
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare (codesG x1) ∗ owns (c : Thread nD τ) arg10 fullShare (scalesG x1) ∗ owns (c : Thread nD τ) arg11 fullShare (wtG x0 x2) ∗ owns (c : Thread nD τ) arg12 fullShare (wpG x0 x2) ∗ (∃ d, owns (c : Thread nD τ) arg13 fullShare d) ∗ owns (c : Thread nD τ) arg14 fullShare (xaG x1 256 (by decide)) ∗ owns (c : Thread nD τ) arg15 fullShare (yG (xaG x1 0 (by decide)) (wtG x0 x2)) ∗ (∃ d, owns (c : Thread nD τ) arg16 fullShare d) ∗ owns (c : Thread nD τ) arg17 fullShare (kpG (xaG x1 0 (by decide)) (wpG x0 x2)) ∗ (∃ d, owns (c : Thread nD τ) arg18 fullShare d)) -∗ K ⟨⟩))
    ⊢ wp frame (wpE (defs₀ (F := Ideal)) Variants.none c none) E (cc0_mla_down_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have hwt : Computes (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2) (Scf.trips k0_t1_loop.lb k0_t1_loop.ub k0_t1_loop.st)).1 (wtG x0 x2) := by
    have h := pb_wt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2)
    rw [harg1.read_unread, harg3.read_unread] at h
    exact h
  have hwp : Computes (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2) (Scf.trips k0_t1_loop.lb k0_t1_loop.ub k0_t1_loop.st)).2 (wpG x0 x2) := by
    have h := pb_wp Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 (harg1.unread x0) (harg3.unread x2)
    rw [harg1.read_unread, harg3.read_unread] at h
    exact h
  have hcodes : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).1 (codesG x1) := by
    rw [A_codes, harg2.read_unread]
    exact codesL_computes x1
  have hscales : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.1 (scalesG x1) := by
    rw [A_scales, harg2.read_unread]
    exact scalesL_computes x1
  have hwt : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.1 (wtG x0 x2) := by
    rw [A_wt]
    exact hwt
  have hwp : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.1 (wpG x0 x2) := by
    rw [A_wp]
    exact hwp
  have hxb : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.1 (xaG x1 256 (by decide)) := by
    rw [A_xb, harg2.read_unread]
    exact xaL_computes x1 256 (by decide)
  have hya : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.1 (yG (xaG x1 0 (by decide)) (wtG x0 x2)) := by
    rw [A_ya, harg2.read_unread, (xaL_computes x1 0 (by decide)).read, wholeXa_eq]
    exact (congrArg (fun w => Computes (yL (xaG x1 0 (by decide)) w) (yG (xaG x1 0 (by decide)) (wtG x0 x2))) (hwt.read arg11.view (harg11.unread xs0))).mpr (yL_computes _ _)
  have hka : Computes (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.1 (kpG (xaG x1 0 (by decide)) (wpG x0 x2)) := by
    rw [A_ka, harg2.read_unread, (xaL_computes x1 0 (by decide)).read, wholeXa_eq, wholeWp_eq]
    exact (congrArg (fun w => Computes (kpL (xaG x1 0 (by decide)) w) (kpG (xaG x1 0 (by decide)) (wpG x0 x2))) (hwp.read arg12.view (harg12.unread xs1))).mpr (kpL_computes _ _)
  iintro ⟨H1, H2, H3, H4, H5, H6, H7, H8, H9, H10, H11, H12, H13, H14, H15, H16, H17, H18, HK⟩
  iapply ((kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, H11, H12, H13, H14, H15, H16, H17, H18⟩
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (named c arg9 hcodes); iexact H9
  isplitl [H10]; · iapply (named c arg10 hscales); iexact H10
  isplitl [H11]; · iapply (named c arg11 hwt); iexact H11
  isplitl [H12]; · iapply (named c arg12 hwp); iexact H12
  isplitl [H13]; · iexact H13
  isplitl [H14]; · iapply (named c arg14 hxb); iexact H14
  isplitl [H15]; · iapply (named c arg15 hya); iexact H15
  isplitl [H16]; · iexact H16
  isplitl [H17]; · iapply (named c arg17 hka); iexact H17
  iexact H18

theorem step_B (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : ¬cond0_0 i) (hc1 : cond0_1 i) (hc2 : ¬cond0_2 i) (x0 : Vec Ideal S17x32 .f32) (x1 : Vec Ideal S512x4096 .bf16) (x2 : Vec Ideal S2112x4096 .fp8e4m3) (x3 : Vec Ideal S1x1536 .bf16) (x4 : Vec Ideal S1x512 .bf16) (xs0 : Vec Ideal S4096x2048 .bf16) (xs1 : Vec Ideal S64x4096 .bf16) (xs2 : Vec Ideal S256x4096 .bf16) (xs3 : Vec Ideal S256x4096 .bf16) (xs4 : Vec Ideal S256x2048 .f32) (xs5 : Vec Ideal S256x2048 .f32) (xs6 : Vec Ideal S64x256 .f32) (xs7 : Vec Ideal S64x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ owns (c : Thread nD τ) arg17 fullShare xs6 ∗ owns (c : Thread nD τ) arg18 fullShare xs7
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (qG xs4 (yG xs3 xs0) x3) ∗ owns (c : Thread nD τ) arg7 fullShare (cG xs4 (yG xs3 xs0) x4) ∗ owns (c : Thread nD τ) arg8 fullShare (kG xs6 (kpG xs3 xs1)) ∗ owns (c : Thread nD τ) arg9 fullShare (codesG x1) ∗ owns (c : Thread nD τ) arg10 fullShare (scalesG x1) ∗ owns (c : Thread nD τ) arg11 fullShare xs0 ∗ owns (c : Thread nD τ) arg12 fullShare xs1 ∗ (∃ d, owns (c : Thread nD τ) arg13 fullShare d) ∗ owns (c : Thread nD τ) arg14 fullShare (xaG x1 256 (by decide)) ∗ owns (c : Thread nD τ) arg15 fullShare (yG (xaG x1 0 (by decide)) xs0) ∗ (∃ d, owns (c : Thread nD τ) arg16 fullShare d) ∗ owns (c : Thread nD τ) arg17 fullShare (kpG (xaG x1 0 (by decide)) xs1) ∗ (∃ d, owns (c : Thread nD τ) arg18 fullShare d)) -∗ K ⟨⟩))
    ⊢ wp frame (wpE (defs₀ (F := Ideal)) Variants.none c none) E (cc0_mla_down_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have hq : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).1 (qG xs4 (yG xs3 xs0) x3) := by
    rw [B_q, harg15.read_unread, harg14.read_unread, harg11.read_unread, harg4.read_unread, wholeXa_eq, (yL_computes xs3 xs0).read]
    exact qL_computes _ _ _
  have hc : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.1 (cG xs4 (yG xs3 xs0) x4) := by
    rw [B_c, harg15.read_unread, harg14.read_unread, harg11.read_unread, harg5.read_unread, wholeXa_eq, (yL_computes xs3 xs0).read]
    exact cL_computes _ _ _
  have hk : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.1 (kG xs6 (kpG xs3 xs1)) := by
    rw [B_k, harg17.read_unread, harg14.read_unread, harg12.read_unread, wholeXa_eq, wholeWp_eq, (kpL_computes xs3 xs1).read]
    exact kL_computes _ _
  have hcodes : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.1 (codesG x1) := by
    rw [B_codes, harg2.read_unread]
    exact codesL_computes x1
  have hscales : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.1 (scalesG x1) := by
    rw [B_scales, harg2.read_unread]
    exact scalesL_computes x1
  have hxb : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.1 (xaG x1 256 (by decide)) := by
    rw [B_xb, harg2.read_unread]
    exact xaL_computes x1 256 (by decide)
  have hya : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.1 (yG (xaG x1 0 (by decide)) xs0) := by
    rw [B_ya, harg2.read_unread, (xaL_computes x1 0 (by decide)).read, wholeXa_eq, harg11.read_unread]
    exact yL_computes _ _
  have hka : Computes (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.2.1 (kpG (xaG x1 0 (by decide)) xs1) := by
    rw [B_ka, harg2.read_unread, (xaL_computes x1 0 (by decide)).read, wholeXa_eq, harg12.read_unread, wholeWp_eq]
    exact kpL_computes _ _
  iintro ⟨H1, H2, H3, H4, H5, H6, H7, H8, H9, H10, H11, H12, H13, H14, H15, H16, H17, H18, HK⟩
  iapply ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 xs0 xs1 xs2 xs3 xs4 xs5 xs6 xs7).2.2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, H11, H12, H13, H14, H15, H16, H17, H18⟩
  iapply HK
  isplitl [H1]; · iexact H1
  isplitl [H2]; · iexact H2
  isplitl [H3]; · iexact H3
  isplitl [H4]; · iexact H4
  isplitl [H5]; · iexact H5
  isplitl [H6]; · iapply (named c arg6 hq); iexact H6
  isplitl [H7]; · iapply (named c arg7 hc); iexact H7
  isplitl [H8]; · iapply (named c arg8 hk); iexact H8
  isplitl [H9]; · iapply (named c arg9 hcodes); iexact H9
  isplitl [H10]; · iapply (named c arg10 hscales); iexact H10
  isplitl [H11]; · iexact H11
  isplitl [H12]; · iexact H12
  isplitl [H13]; · iexact H13
  isplitl [H14]; · iapply (named c arg14 hxb); iexact H14
  isplitl [H15]; · iapply (named c arg15 hya); iexact H15
  isplitl [H16]; · iexact H16
  isplitl [H17]; · iapply (named c arg17 hka); iexact H17
  iexact H18

theorem step_C (c : Dev nD) (i : grid0.Coords) (arg1 : Memref sig .tc .smem S17x32 .f32) (harg1 : arg1.IsWhole) (arg2 : Memref sig .tc .vmem S512x4096 .bf16) (harg2 : arg2.IsWhole) (arg3 : Memref sig .tc .vmem S2112x4096 .fp8e4m3) (harg3 : arg3.IsWhole) (arg4 : Memref sig .tc .vmem S1x1536 .bf16) (harg4 : arg4.IsWhole) (arg5 : Memref sig .tc .vmem S1x512 .bf16) (harg5 : arg5.IsWhole) (arg6 : Memref sig .tc .vmem S512x1536 .bf16) (harg6 : arg6.IsWhole) (arg7 : Memref sig .tc .vmem S512x512 .bf16) (harg7 : arg7.IsWhole) (arg8 : Memref sig .tc .vmem S512x64 .bf16) (harg8 : arg8.IsWhole) (arg9 : Memref sig .tc .vmem S512x4096 .fp8e4m3) (harg9 : arg9.IsWhole) (arg10 : Memref sig .tc .vmem S512x32 .f32) (harg10 : arg10.IsWhole) (arg11 : Memref sig .tc .vmem S4096x2048 .bf16) (harg11 : arg11.IsWhole) (arg12 : Memref sig .tc .vmem S64x4096 .bf16) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x2048 .f32) (harg15 : arg15.IsWhole) (arg16 : Memref sig .tc .vmem S256x2048 .f32) (harg16 : arg16.IsWhole) (arg17 : Memref sig .tc .vmem S64x256 .f32) (harg17 : arg17.IsWhole) (arg18 : Memref sig .tc .vmem S64x256 .f32) (harg18 : arg18.IsWhole) (hc0 : ¬cond0_0 i) (hc1 : ¬cond0_1 i) (hc2 : cond0_2 i) (x0 : Vec Ideal S17x32 .f32) (x1 : Vec Ideal S512x4096 .bf16) (x2 : Vec Ideal S2112x4096 .fp8e4m3) (x3 : Vec Ideal S1x1536 .bf16) (x4 : Vec Ideal S1x512 .bf16) (x8 : Vec Ideal S512x4096 .fp8e4m3) (x9 : Vec Ideal S512x32 .f32) (xs0 : Vec Ideal S4096x2048 .bf16) (xs1 : Vec Ideal S64x4096 .bf16) (xs2 : Vec Ideal S256x4096 .bf16) (xs3 : Vec Ideal S256x4096 .bf16) (xs4 : Vec Ideal S256x2048 .f32) (xs5 : Vec Ideal S256x2048 .f32) (xs6 : Vec Ideal S64x256 .f32) (xs7 : Vec Ideal S64x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x8 ∗ owns (c : Thread nD τ) arg10 fullShare x9 ∗ owns (c : Thread nD τ) arg11 fullShare xs0 ∗ owns (c : Thread nD τ) arg12 fullShare xs1 ∗ owns (c : Thread nD τ) arg13 fullShare xs2 ∗ owns (c : Thread nD τ) arg14 fullShare xs3 ∗ owns (c : Thread nD τ) arg15 fullShare xs4 ∗ owns (c : Thread nD τ) arg16 fullShare xs5 ∗ owns (c : Thread nD τ) arg17 fullShare xs6 ∗ owns (c : Thread nD τ) arg18 fullShare xs7
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (qG xs4 (yG xs3 xs0) x3) ∗ owns (c : Thread nD τ) arg7 fullShare (cG xs4 (yG xs3 xs0) x4) ∗ owns (c : Thread nD τ) arg8 fullShare (kG xs6 (kpG xs3 xs1)) ∗ owns (c : Thread nD τ) arg9 fullShare x8 ∗ owns (c : Thread nD τ) arg10 fullShare x9 ∗ owns (c : Thread nD τ) arg11 fullShare xs0 ∗ owns (c : Thread nD τ) arg12 fullShare xs1 ∗ (∃ d, owns (c : Thread nD τ) arg13 fullShare d) ∗ owns (c : Thread nD τ) arg14 fullShare xs3 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
    ⊢ wp frame (wpE (defs₀ (F := Ideal)) Variants.none c none) E (cc0_mla_down_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have hq : Computes (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).1 (qG xs4 (yG xs3 xs0) x3) := by
    rw [C_q, harg15.read_unread, harg14.read_unread, harg11.read_unread, harg4.read_unread, wholeXa_eq, (yL_computes xs3 xs0).read]
    exact qL_computes _ _ _
  have hc : Computes (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).2.1 (cG xs4 (yG xs3 xs0) x4) := by
    rw [C_c, harg15.read_unread, harg14.read_unread, harg11.read_unread, harg5.read_unread, wholeXa_eq, (yL_computes xs3 xs0).read]
    exact cL_computes _ _ _
  have hk : Computes (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).2.2.1 (kG xs6 (kpG xs3 xs1)) := by
    rw [C_k, harg17.read_unread, harg14.read_unread, harg12.read_unread, wholeXa_eq, wholeWp_eq, (kpL_computes xs3 xs1).read]
    exact kL_computes _ _
  iintro ⟨H1, H2, H3, H4, H5, H6, H7, H8, H9, H10, H11, H12, H13, H14, H15, H16, H17, H18, HK⟩
  iapply ((kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x8 x9 xs0 xs1 xs2 xs3 xs4 xs5 xs6 xs7).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H1, H2, H3, H4, H5, H6, H7, H8, H9, H10, H11, H12, H13, H14, H15, H16, H17, H18⟩
  iapply HK
  isplitl [H1]; · iexact H1
  isplitl [H2]; · iexact H2
  isplitl [H3]; · iexact H3
  isplitl [H4]; · iexact H4
  isplitl [H5]; · iexact H5
  isplitl [H6]; · iapply (named c arg6 hq); iexact H6
  isplitl [H7]; · iapply (named c arg7 hc); iexact H7
  isplitl [H8]; · iapply (named c arg8 hk); iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Mla

end
-- ==== Proof.Mla.Run.lean ====
/-
  The kernel's whole run over the extended reals: what each window's buffer and each carried scratch holds after every
  grid point, the proof data those make, the body's obligation, the run and the frame.
-/
module

public import proofs.«01_k».proof.Proof.Mla.Steps
public import Idealize.ShloMosaic.Lib.Pipeline.TableIdle
public import Idealize.ShloMosaic.Lib.Claim

@[expose] public section

set_option maxRecDepth 16384

noncomputable section

namespace Cert.Mla

open Idealize.ShloMosaic hiding ix1 ix2 eq_ix2
open Idealize Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic Idealize.ShloMosaic.ValueIdx
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

theorem lt33 (t : Fin cfg0.N) : t.val < 33 := lt_of_lt_of_eq t.isLt (show cfg0.N = 33 from N_0)

/-- The point at which block `n` of the rows is quantized. -/
def pt (n : ℕ) : Fin cfg0.N := ⟨min n 31, lt_of_lt_of_eq (by omega : min n 31 < 33) (show 33 = cfg0.N from N_0.symm)⟩

theorem pt_val (t : Fin cfg0.N) (h : t.val ≤ 31) : pt t.val = t := Fin.ext (by show min t.val 31 = t.val; omega)

/-- The weight scales, the weights, the rows of block `n` and the two gains, as the region finds them. -/
def wsB (c : Dev nD) : Vec Ideal S17x32 .f32 := iblk m c 0 (pt 0)
def wB (c : Dev nD) : Vec Ideal S2112x4096 .fp8e4m3 := iblk m c 2 (pt 0)
def xB (c : Dev nD) (n : ℕ) : Vec Ideal S512x4096 .bf16 := iblk m c 1 (pt n)

/-- The dequantized weights of the latent rows, transposed, and of the key rows. -/
def wtB (c : Dev nD) : Vec Ideal S4096x2048 .bf16 := wtG (wsB m c) (wB m c)
def wpB (c : Dev nD) : Vec Ideal S64x4096 .bf16 := wpG (wsB m c) (wB m c)

/-- The products of the first and of the second half of block `n`. -/
def yaB (c : Dev nD) (n : ℕ) : Vec Ideal S256x2048 .f32 := yG (xaG (xB m c n) 0 (by decide)) (wtB m c)
def ybB (c : Dev nD) (n : ℕ) : Vec Ideal S256x2048 .f32 := yG (xaG (xB m c n) 256 (by decide)) (wtB m c)
def kaB (c : Dev nD) (n : ℕ) : Vec Ideal S64x256 .f32 := kpG (xaG (xB m c n) 0 (by decide)) (wpB m c)
def kbB (c : Dev nD) (n : ℕ) : Vec Ideal S64x256 .f32 := kpG (xaG (xB m c n) 256 (by decide)) (wpB m c)

/-- What is written for block `n`: the latent query, the latent key, the rope key, the codes and the scales. -/
def qB (c : Dev nD) (n : ℕ) (g : Vec Ideal S1x1536 .bf16) : Vec Ideal S512x1536 .bf16 := qG (yaB m c n) (ybB m c n) g
def cB (c : Dev nD) (n : ℕ) (g : Vec Ideal S1x512 .bf16) : Vec Ideal S512x512 .bf16 := cG (yaB m c n) (ybB m c n) g
def kB (c : Dev nD) (n : ℕ) : Vec Ideal S512x64 .bf16 := kG (kaB m c n) (kbB m c n)

/-- What the carried scratch holds after point `n`, the other scratch and the generator at anything. -/
def carried (c : Dev nD) (n : ℕ) : sProp 𝕄 :=
  iprop(iprop(owns (c : Thread nD τ) scM0_0 fullShare (wtB m c) ∗ owns (c : Thread nD τ) scM0_1 fullShare (wpB m c)
    ∗ (∃ d, owns (c : Thread nD τ) scM0_2 fullShare d) ∗ owns (c : Thread nD τ) scM0_3 fullShare (xaG (xB m c n) 256 (by decide))
    ∗ owns (c : Thread nD τ) scM0_4 fullShare (yaB m c n) ∗ (∃ d, owns (c : Thread nD τ) scM0_5 fullShare d)
    ∗ owns (c : Thread nD τ) scM0_6 fullShare (kaB m c n) ∗ (∃ d, owns (c : Thread nD τ) scM0_7 fullShare d)) ∗ (∃ r, prngReg c r))

/-- The invariant before point `n`: the scratch at anything before the first point and after the last, and between them
    what the point before left in it. -/
def PhiR (c : Dev nD) : ℕ → sProp 𝕄
  | 0 => Pipeline.ΦA spec0 c
  | n + 1 => if n < 32 then carried m c n else Pipeline.ΦA spec0 c

theorem PhiR_of_pos (c : Dev nD) (n : ℕ) (h0 : n ≠ 0) (h : n ≤ 32) : PhiR m c n = carried m c (n - 1) := by
  cases n with
  | zero => exact absurd rfl h0
  | succ n => exact if_pos (by omega)

theorem PhiR_last (c : Dev nD) (n : ℕ) (h : ¬ n < 32) : PhiR m c (n + 1) = Pipeline.ΦA spec0 c := if_neg h

/-- The proof data: the arrays as the region finds them; after each point each window's buffer at what it holds. -/
def datR (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qB m c (t.val - 1) (iblk m c 3 t)
    | ⟨6, _⟩ => cB m c (t.val - 1) (iblk m c 4 t)
    | ⟨7, _⟩ => kB m c (t.val - 1)
    | ⟨8, _⟩ => codesG (xB m c t.val)
    | ⟨9, _⟩ => scalesG (xB m c t.val)
  Φ t := PhiR m c t.val
  q _ := fullShare
  owed _ := 0

theorem datR_A (c : Dev nD) (w : Fin cfg0.W) : (datR m 0 c).A w = V m c (Pipeline.arrRef spec0 w) := by dsimp only [datR]
theorem datR_Φ (c : Dev nD) (t : Fin (cfg0.N + 1)) : (datR m 0 c).Φ t = PhiR m c t.val := by dsimp only [datR]

theorem after_0 (c : Dev nD) (t : Fin cfg0.N) : (datR m 0 c).after 0 t = iblk m c 0 t := by dsimp only [datR]
theorem after_1 (c : Dev nD) (t : Fin cfg0.N) : (datR m 0 c).after 1 t = iblk m c 1 t := by dsimp only [datR]
theorem after_2 (c : Dev nD) (t : Fin cfg0.N) : (datR m 0 c).after 2 t = iblk m c 2 t := by dsimp only [datR]
theorem after_3 (c : Dev nD) (t : Fin cfg0.N) : (datR m 0 c).after 3 t = iblk m c 3 t := by dsimp only [datR]
theorem after_4 (c : Dev nD) (t : Fin cfg0.N) : (datR m 0 c).after 4 t = iblk m c 4 t := by dsimp only [datR]
theorem after_5 (c : Dev nD) (t : Fin cfg0.N) : (datR m 0 c).after 5 t = qB m c (t.val - 1) (iblk m c 3 t) := by dsimp only [datR]
theorem after_6 (c : Dev nD) (t : Fin cfg0.N) : (datR m 0 c).after 6 t = cB m c (t.val - 1) (iblk m c 4 t) := by dsimp only [datR]
theorem after_7 (c : Dev nD) (t : Fin cfg0.N) : (datR m 0 c).after 7 t = kB m c (t.val - 1) := by dsimp only [datR]
theorem after_8 (c : Dev nD) (t : Fin cfg0.N) : (datR m 0 c).after 8 t = codesG (xB m c t.val) := by dsimp only [datR]
theorem after_9 (c : Dev nD) (t : Fin cfg0.N) : (datR m 0 c).after 9 t = scalesG (xB m c t.val) := by dsimp only [datR]

theorem before_0 (c : Dev nD) (t : Fin cfg0.N) (d) : (datR m 0 c).before 0 t d = iblk m c 0 t :=
  before0_0_of m (datR m 0 c) (datR_A m c 0) (after_0 m c) t d
theorem before_1 (c : Dev nD) (t : Fin cfg0.N) (d) : (datR m 0 c).before 1 t d = iblk m c 1 t :=
  before0_1_of m (datR m 0 c) (datR_A m c 1) (after_1 m c) t d
theorem before_2 (c : Dev nD) (t : Fin cfg0.N) (d) : (datR m 0 c).before 2 t d = iblk m c 2 t :=
  before0_2_of m (datR m 0 c) (datR_A m c 2) (after_2 m c) t d
theorem before_3 (c : Dev nD) (t : Fin cfg0.N) (d) : (datR m 0 c).before 3 t d = iblk m c 3 t :=
  before0_3_of m (datR m 0 c) (datR_A m c 3) (after_3 m c) t d
theorem before_4 (c : Dev nD) (t : Fin cfg0.N) (d) : (datR m 0 c).before 4 t d = iblk m c 4 t :=
  before0_4_of m (datR m 0 c) (datR_A m c 4) (after_4 m c) t d

/-! ## Where the output windows are written back -/

theorem fetch_out (w : Fin 10) (hw : 5 ≤ w.val) (t : Fin cfg0.N) : (cfg0.win w).fetch t = false := by
  have hw' : w = 5 ∨ w = 6 ∨ w = 7 ∨ w = 8 ∨ w = 9 := by omega
  rcases hw' with rfl | rfl | rfl | rfl | rfl <;> rfl

theorem flush_out : ∀ t : Fin cfg0.N, (cfg0.win 5).flush t = decide (t.val ≠ 0) ∧ (cfg0.win 6).flush t = decide (t.val ≠ 0)
    ∧ (cfg0.win 7).flush t = decide (t.val ≠ 0) := fun t => by
  rw [Window.flush_eq_flushF, Window.flush_eq_flushF, Window.flush_eq_flushF]
  exact (by decide +kernel : ∀ t : Fin cfg0.N, (cfg0.win 5).flushF t = decide (t.val ≠ 0) ∧ (cfg0.win 6).flushF t = decide (t.val ≠ 0)
    ∧ (cfg0.win 7).flushF t = decide (t.val ≠ 0)) t

theorem flush_codes : ∀ t : Fin cfg0.N, (cfg0.win 8).flush t = decide (t.val ≠ 31) ∧ (cfg0.win 9).flush t = decide (t.val ≠ 31) := fun t => by
  rw [Window.flush_eq_flushF, Window.flush_eq_flushF]
  exact (by decide +kernel : ∀ t : Fin cfg0.N, (cfg0.win 8).flushF t = decide (t.val ≠ 31) ∧ (cfg0.win 9).flushF t = decide (t.val ≠ 31)) t

theorem leaves_live (c : Dev nD) (w : Fin cfg0.W) (t : Fin cfg0.N) (h : cfg0.idle w (cfg0.grid.coords t) = false) :
    (datR m 0 c).leavesExact w t = owns (c : Thread nD τ) ((cfg0.win w).stage (cfg0.slots t w)) fullShare ((datR m 0 c).after w t) := by
  unfold Dat.leavesExact; rw [h]
theorem leaves_flushed (c : Dev nD) (w : Fin cfg0.W) (t : Fin cfg0.N) (h : cfg0.idle w (cfg0.grid.coords t) = true) (hf : (cfg0.win w).flush t = true) :
    (datR m 0 c).leavesExact w t = owns (c : Thread nD τ) ((cfg0.win w).stage (cfg0.slots t w)) fullShare ((datR m 0 c).after w t) := by
  unfold Dat.leavesExact; rw [h, hf]

theorem before_first (c : Dev nD) (w : Fin 10) (hw : 5 ≤ w.val) (t : Fin cfg0.N) (h : t.val = 0) (d) : (datR m 0 c).before w t d = d := by
  unfold Dat.before; rw [fetch_out w hw t, if_neg Bool.false_ne_true, if_pos h]

/-- The last point finds the codes' buffer as the point before left it. -/
theorem before_last_8 (c : Dev nD) (t : Fin cfg0.N) (h : t.val = 32) (d) : (datR m 0 c).before 8 t d = codesG (xB m c t.val) := by
  have hl : t.val - 1 < cfg0.N := Nat.lt_of_le_of_lt (Nat.sub_le _ _) t.isLt
  rw [Dat.before_of_pos _ _ _ (by omega) (fetch_out 8 (by decide) t), (flush_codes ⟨t.val - 1, hl⟩).1,
    decide_eq_false (by show ¬ (t.val - 1 ≠ 31); omega), if_neg Bool.false_ne_true]
  unfold Dat.left
  rw [show cfg0.idle 8 (cfg0.grid.coords ⟨t.val - 1, hl⟩) = false from (idleAt0_codes 8 (by decide) ⟨t.val - 1, hl⟩).trans (decide_eq_false (by show ¬ (t.val - 1 = 32); omega))]
  refine (show (datR m 0 c).kept 8 ⟨t.val - 1, hl⟩ d = (datR m 0 c).after 8 ⟨t.val - 1, hl⟩ from rfl).trans ?_
  rw [after_8]
  exact congrArg (fun p => codesG (iblk m c 1 p)) (Fin.ext (by show min (t.val - 1) 31 = min t.val 31; omega) : pt (t.val - 1) = pt t.val)

/-- The last point finds the scales' buffer as the point before left it. -/
theorem before_last_9 (c : Dev nD) (t : Fin cfg0.N) (h : t.val = 32) (d) : (datR m 0 c).before 9 t d = scalesG (xB m c t.val) := by
  have hl : t.val - 1 < cfg0.N := Nat.lt_of_le_of_lt (Nat.sub_le _ _) t.isLt
  rw [Dat.before_of_pos _ _ _ (by omega) (fetch_out 9 (by decide) t), (flush_codes ⟨t.val - 1, hl⟩).2,
    decide_eq_false (by show ¬ (t.val - 1 ≠ 31); omega), if_neg Bool.false_ne_true]
  unfold Dat.left
  rw [show cfg0.idle 9 (cfg0.grid.coords ⟨t.val - 1, hl⟩) = false from (idleAt0_codes 9 (by decide) ⟨t.val - 1, hl⟩).trans (decide_eq_false (by show ¬ (t.val - 1 = 32); omega))]
  refine (show (datR m 0 c).kept 9 ⟨t.val - 1, hl⟩ d = (datR m 0 c).after 9 ⟨t.val - 1, hl⟩ from rfl).trans ?_
  rw [after_9]
  exact congrArg (fun p => scalesG (iblk m c 1 p)) (Fin.ext (by show min (t.val - 1) 31 = min t.val 31; omega) : pt (t.val - 1) = pt t.val)

/-! ## The body's obligation -/

def bodyPreR (c : Dev nD) (t : Fin cfg0.N) : sProp 𝕄 :=
  iprop((datR m 0 c).Φ t.castSucc ∗ (datR m 0 c).owesAt () t.castSucc
    ∗ (∃ d, owns (c : Thread nD τ) (ms0_0 t) fullShare ((datR m 0 c).before 0 t d))
    ∗ (∃ d, owns (c : Thread nD τ) (ms0_1 t) fullShare ((datR m 0 c).before 1 t d))
    ∗ (∃ d, owns (c : Thread nD τ) (ms0_2 t) fullShare ((datR m 0 c).before 2 t d))
    ∗ (∃ d, owns (c : Thread nD τ) (ms0_3 t) fullShare ((datR m 0 c).before 3 t d))
    ∗ (∃ d, owns (c : Thread nD τ) (ms0_4 t) fullShare ((datR m 0 c).before 4 t d))
    ∗ (∃ d, owns (c : Thread nD τ) (ms0_5 t) fullShare ((datR m 0 c).before 5 t d))
    ∗ (∃ d, owns (c : Thread nD τ) (ms0_6 t) fullShare ((datR m 0 c).before 6 t d))
    ∗ (∃ d, owns (c : Thread nD τ) (ms0_7 t) fullShare ((datR m 0 c).before 7 t d))
    ∗ (∃ d, owns (c : Thread nD τ) (ms0_8 t) fullShare ((datR m 0 c).before 8 t d))
    ∗ (∃ d, owns (c : Thread nD τ) (ms0_9 t) fullShare ((datR m 0 c).before 9 t d)))

def bodyPostR (c : Dev nD) (t : Fin cfg0.N) : sProp 𝕄 :=
  iprop((datR m 0 c).Φ t.succ ∗ (datR m 0 c).owesAt () t.succ
    ∗ (datR m 0 c).leavesExact 0 t
    ∗ (datR m 0 c).leavesExact 1 t
    ∗ (datR m 0 c).leavesExact 2 t
    ∗ (datR m 0 c).leavesExact 3 t
    ∗ (datR m 0 c).leavesExact 4 t
    ∗ (datR m 0 c).leavesExact 5 t
    ∗ (datR m 0 c).leavesExact 6 t
    ∗ (datR m 0 c).leavesExact 7 t
    ∗ (datR m 0 c).leavesExact 8 t
    ∗ (datR m 0 c).leavesExact 9 t)

set_option maxHeartbeats 4000000 in
theorem sound_A (c : Dev nD) (t : Fin cfg0.N) (h : t.val = 0) :
    bodyPreR m c t ⊢ wp frame (wpE (defs₀ (F := Ideal)) Variants.none c none) Set.univ (bodyAt0 t) (fun _ => bodyPostR m c t) := by
  have hlt := lt33 t
  have k0 : cond0_0 (grid0.coords t) := ((hcond0_0 t).mpr (by omega))
  have k1 : cond0_1 (grid0.coords t) → False := (fun h1 => by have := (hcond0_1 t).mp h1; omega)
  have k2 : cond0_2 (grid0.coords t) → False := (fun h1 => by have := (hcond0_2 t).mp h1; omega)
  unfold bodyPreR bodyPostR bodyAt0
  simp only [before_0, before_1, before_2, before_3, before_4]
  rw [show (datR m 0 c).owesAt () t.succ = (datR m 0 c).owesAt () t.castSucc from rfl]
  rw [datR_Φ m c t.succ, datR_Φ m c t.castSucc]
  rw [show PhiR m c t.castSucc.val = Pipeline.ΦA spec0 c from congrArg (PhiR m c) (show t.castSucc.val = 0 from h), PhiA0_eq]
  rw [show PhiR m c t.succ.val = carried m c 0 from (congrArg (PhiR m c) (show t.succ.val = 0 + 1 from congrArg (· + 1) h))]
  unfold carried
  have ht : t = pt 0 := Fin.ext h
  subst ht
  rw [leaves_live m c 0 (pt 0) (liveAt0_0 (pt 0)), after_0]
  rw [leaves_live m c 1 (pt 0) (liveAt0_1 (pt 0)), after_1]
  rw [leaves_live m c 2 (pt 0) (liveAt0_2 (pt 0)), after_2]
  rw [leaves_live m c 3 (pt 0) (liveAt0_3 (pt 0)), after_3]
  rw [leaves_live m c 4 (pt 0) (liveAt0_4 (pt 0)), after_4]
  rw [Dat.leavesExact_idle _ 5 (pt 0) ((idleAt0_out 5 (by decide) (pt 0)).trans (decide_eq_true h)) ((flush_out (pt 0)).1.trans (decide_eq_false (by omega)))]
  rw [Dat.leavesExact_idle _ 6 (pt 0) ((idleAt0_out 6 (by decide) (pt 0)).trans (decide_eq_true h)) ((flush_out (pt 0)).2.1.trans (decide_eq_false (by omega)))]
  rw [Dat.leavesExact_idle _ 7 (pt 0) ((idleAt0_out 7 (by decide) (pt 0)).trans (decide_eq_true h)) ((flush_out (pt 0)).2.2.trans (decide_eq_false (by omega)))]
  rw [leaves_live m c 8 (pt 0) ((idleAt0_codes 8 (by decide) (pt 0)).trans (decide_eq_false (by omega))), after_8]
  rw [leaves_live m c 9 (pt 0) ((idleAt0_codes 9 (by decide) (pt 0)).trans (decide_eq_false (by omega))), after_9]
  simp only [before_first m c 5 (by decide) (pt 0) h, before_first m c 6 (by decide) (pt 0) h, before_first m c 7 (by decide) (pt 0) h]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (step_A c (grid0.coords (pt 0)) _ _ _ _ _ _ _ _ _ _ _ _ _ _ _ _ _ _ _ _ _ _ _ _ _ _ _ _ _ _ _ _ _ _ _ _ k0 k1 k2 (iblk m c 0 (pt 0)) (iblk m c 1 (pt 0)) (iblk m c 2 (pt 0)) (iblk m c 3 (pt 0)) (iblk m c 4 (pt 0)) s0 s1 s2 s3 s4 s5 s6 s7 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
theorem sound_B (c : Dev nD) (t : Fin cfg0.N) (h0 : t.val ≠ 0) (h2 : t.val ≤ 31) :
    bodyPreR m c t ⊢ wp frame (wpE (defs₀ (F := Ideal)) Variants.none c none) Set.univ (bodyAt0 t) (fun _ => bodyPostR m c t) := by
  have hlt := lt33 t
  have k0 : cond0_0 (grid0.coords t) → False := (fun h1 => by have := (hcond0_0 t).mp h1; omega)
  have k1 : cond0_1 (grid0.coords t) := ((hcond0_1 t).mpr (by omega))
  have k2 : cond0_2 (grid0.coords t) → False := (fun h1 => by have := (hcond0_2 t).mp h1; omega)
  unfold bodyPreR bodyPostR bodyAt0
  simp only [before_0, before_1, before_2, before_3, before_4]
  rw [show (datR m 0 c).owesAt () t.succ = (datR m 0 c).owesAt () t.castSucc from rfl]
  rw [datR_Φ m c t.succ, datR_Φ m c t.castSucc]
  rw [show PhiR m c t.castSucc.val = carried m c (t.val - 1) from PhiR_of_pos m c t.val h0 (by omega)]
  rw [show PhiR m c t.succ.val = carried m c t.val from if_pos (by omega)]
  unfold carried
  have hx : iblk m c 1 t = xB m c t.val := by
    unfold xB; have e := pt_val t h2; generalize pt t.val = p at e ⊢; subst e; rfl
  rw [leaves_live m c 0 t (liveAt0_0 t), after_0]
  rw [leaves_live m c 1 t (liveAt0_1 t), after_1]
  rw [leaves_live m c 2 t (liveAt0_2 t), after_2]
  rw [leaves_live m c 3 t (liveAt0_3 t), after_3]
  rw [leaves_live m c 4 t (liveAt0_4 t), after_4]
  rw [leaves_live m c 5 t ((idleAt0_out 5 (by decide) t).trans (decide_eq_false (by omega))), after_5]
  rw [leaves_live m c 6 t ((idleAt0_out 6 (by decide) t).trans (decide_eq_false (by omega))), after_6]
  rw [leaves_live m c 7 t ((idleAt0_out 7 (by decide) t).trans (decide_eq_false (by omega))), after_7]
  rw [leaves_live m c 8 t ((idleAt0_codes 8 (by decide) t).trans (decide_eq_false (by omega))), after_8]
  rw [leaves_live m c 9 t ((idleAt0_codes 9 (by decide) t).trans (decide_eq_false (by omega))), after_9]
  iintro ⟨⟨⟨HS0, HS1, ⟨%s2, HS2⟩, HS3, HS4, ⟨%s5, HS5⟩, HS6, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [hx]
  iapply (step_B c (grid0.coords t) _ _ _ _ _ _ _ _ _ _ _ _ _ _ _ _ _ _ _ _ _ _ _ _ _ _ _ _ _ _ _ _ _ _ _ _ k0 k1 k2 (iblk m c 0 t) (xB m c t.val) (iblk m c 2 t) (iblk m c 3 t) (iblk m c 4 t) (wtB m c) (wpB m c) s2 (xaG (xB m c (t.val - 1)) 256 (by decide)) (yaB m c (t.val - 1)) s5 (kaB m c (t.val - 1)) s7 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
theorem sound_C (c : Dev nD) (t : Fin cfg0.N) (h : t.val = 32) :
    bodyPreR m c t ⊢ wp frame (wpE (defs₀ (F := Ideal)) Variants.none c none) Set.univ (bodyAt0 t) (fun _ => bodyPostR m c t) := by
  have hlt := lt33 t
  have k0 : cond0_0 (grid0.coords t) → False := (fun h1 => by have := (hcond0_0 t).mp h1; omega)
  have k1 : cond0_1 (grid0.coords t) → False := (fun h1 => by have := (hcond0_1 t).mp h1; omega)
  have k2 : cond0_2 (grid0.coords t) := ((hcond0_2 t).mpr (by omega))
  unfold bodyPreR bodyPostR bodyAt0
  simp only [before_0, before_1, before_2, before_3, before_4]
  rw [show (datR m 0 c).owesAt () t.succ = (datR m 0 c).owesAt () t.castSucc from rfl]
  rw [datR_Φ m c t.succ, datR_Φ m c t.castSucc]
  rw [show PhiR m c t.castSucc.val = carried m c (t.val - 1) from PhiR_of_pos m c t.val (by omega) (by omega)]
  rw [show PhiR m c t.succ.val = Pipeline.ΦA spec0 c from if_neg (by omega), PhiA0_eq]
  unfold carried
  rw [leaves_live m c 0 t (liveAt0_0 t), after_0]
  rw [leaves_live m c 1 t (liveAt0_1 t), after_1]
  rw [leaves_live m c 2 t (liveAt0_2 t), after_2]
  rw [leaves_live m c 3 t (liveAt0_3 t), after_3]
  rw [leaves_live m c 4 t (liveAt0_4 t), after_4]
  rw [leaves_live m c 5 t ((idleAt0_out 5 (by decide) t).trans (decide_eq_false (by omega))), after_5]
  rw [leaves_live m c 6 t ((idleAt0_out 6 (by decide) t).trans (decide_eq_false (by omega))), after_6]
  rw [leaves_live m c 7 t ((idleAt0_out 7 (by decide) t).trans (decide_eq_false (by omega))), after_7]
  rw [leaves_flushed m c 8 t ((idleAt0_codes 8 (by decide) t).trans (decide_eq_true (by omega))) ((flush_codes t).1.trans (decide_eq_true (by omega))), after_8]
  rw [leaves_flushed m c 9 t ((idleAt0_codes 9 (by decide) t).trans (decide_eq_true (by omega))) ((flush_codes t).2.trans (decide_eq_true (by omega))), after_9]
  simp only [before_last_8 m c t h, before_last_9 m c t h]
  iintro ⟨⟨⟨HS0, HS1, ⟨%s2, HS2⟩, HS3, HS4, ⟨%s5, HS5⟩, HS6, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (step_C c (grid0.coords t) _ _ _ _ _ _ _ _ _ _ _ _ _ _ _ _ _ _ _ _ _ _ _ _ _ _ _ _ _ _ _ _ _ _ _ _ k0 k1 k2 (iblk m c 0 t) (iblk m c 1 t) (iblk m c 2 t) (iblk m c 3 t) (iblk m c 4 t) (codesG (xB m c t.val)) (scalesG (xB m c t.val)) (wtB m c) (wpB m c) s2 (xaG (xB m c (t.val - 1)) 256 (by decide)) (yaB m c (t.val - 1)) s5 (kaB m c (t.val - 1)) s7 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexists _; iexact HS0
      isplitl [HS1]
      · iexists _; iexact HS1
      isplitl [HS2]
      · iexact HS2
      isplitl [HS3]
      · iexists _; iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_R (c : Dev nD) (t : Fin cfg0.N) :
    bodyPreR m c t ⊢ wp frame (wpE (defs₀ (F := Ideal)) Variants.none c none) Set.univ (bodyAt0 t) (fun _ => bodyPostR m c t) := by
  by_cases h0 : t.val = 0
  · exact sound_A m c t h0
  · by_cases h2 : t.val ≤ 31
    · exact sound_B m c t h0 h2
    · exact sound_C m c t (by have := lt33 t; omega)

theorem row_R (t : Fin cfg0.N) : defs₀ (F := Ideal) .tc cfg0.body (cfg0.bodyArgs t (cfg0.slots t)) = bodyAt0 t := by
  unfold defs₀; rw [Defs.onTc_tc]

theorem obligation_R (c : Dev nD) : BodyObligation (datR m 0 c) (defs₀ (F := Ideal)) Variants.none () Set.univ := fun t => by
  rw [bigSep_W0, bigSep_W0, row_R]
  exact triple_restated (sound_R m c t) rfl .rfl fun _ => .rfl

theorem in_R (c : Dev nD) : Pipeline.ΦA spec0 c ⊢ (datR m 0 c).Φ 0 := by
  rw [datR_Φ]; exact Idealize.SL.BI.Entails.refl _

theorem out_R (c : Dev nD) : (datR m 0 c).Φ (Fin.last cfg0.N) ⊢ Pipeline.ΦA spec0 c := by
  rw [datR_Φ, Fin.val_last, show cfg0.N = 32 + 1 from N_0]
  exact Entails.of_eq (PhiR_last m c 32 (by omega))

set_option backward.isDefEq.respectTransparency.types false in
/-- The run: from any memory with zero counters every weakly fair execution ends, every window's array at what the proof
    data say, every other buffer as the region found it, every counter at zero. -/
theorem run_R : θ_run defs (onTc (τ := τ) (main (F := Ideal))) (s₀ m ρ)
    (fun r => Pipeline.FramePost cfgs (datR m) 0 (V m) r ∧ r.2.sem = fun _ => 0) :=
  Pipeline.θ_run_frame_track cfgs (datR m) (0 : Fin 1) launch0 defs₀ Variants.none m ρ main
    (hbody := fun c => (obligation_R m c).loose) (hshare := fun c => (datR m 0 c).share_full fun _ => rfl)
    (howed := fun _ _ => rfl) (V := V m) (hmain := hmain m Variants.none) (hA := datR_A m) (hin := in_R m) (hout := out_R m) (Q' := _)

/-- The frame of the kernel over the extended reals: every argument array ends as it was, every counter at zero. -/
theorem frame_R : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (datR m) (datR_A m) ((θ_run defs _ _).mono (fun _ h => h.1) (run_R m ρ)))
    ((θ_run defs _ _).mono (fun _ h => h.2) (run_R m ρ))

end Cert.Mla

end
-- ==== Proof.Mla.Frame.lean ====
/-
  The frame of the program at any floats: the run ends, the arguments are kept, the counters end at zero. Nothing of what
  the outputs and the scratch hold is named here, so the invariant is the plain one: every scratch at anything.
-/
module

public import proofs.«01_k».proof.Proof.Mla.RunA
public import proofs.«01_k».proof.Proof.Mla.RunB
public import proofs.«01_k».proof.Proof.Mla.RunC
public import Idealize.ShloMosaic.Lib.Claim

@[expose] public section

set_option maxRecDepth 16384

noncomputable section

namespace Cert.Mla

open Idealize.ShloMosaic
open Idealize Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer some pieces were stored into holds something. -/
theorem anything (c : Dev nD) {sp : Space} {s : Shape} {e : EltTy} (arg : Memref sig .tc sp s e) (L : List (View.Piece (Elt F) s e)) :
    (iprop(∃ f, arg.view.loc (c : Thread nD τ) ↦[arg.view.set]{fullShare} arg.view.writes (Elt F) f L) : sProp 𝕄)
      ⊢ iprop(∃ d, owns (c : Thread nD τ) arg fullShare d) := by
  iintro ⟨%f, H⟩
  iexists _; unfold owns; iexists _; isplitr
  swap; · iexact H
  ipureintro; rfl

/-- The windows nothing is said of: the outputs. -/
def fgt : Fin 10 → Bool := fun w => w.val == 5 || w.val == 6 || w.val == 7 || w.val == 8 || w.val == 9

def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem datF_A (c : Dev nD) (w : Fin cfg0.W) : (datF m 0 c).A w = V m c (Pipeline.arrRef spec0 w) := by dsimp only [datF]
theorem datF_Φ (c : Dev nD) (t : Fin (cfg0.N + 1)) : (datF m 0 c).Φ t = Pipeline.ΦA spec0 c := by dsimp only [datF]

theorem afterF_0 (c : Dev nD) (t : Fin cfg0.N) : (datF m 0 c).after 0 t = iblk m c 0 t := by dsimp only [datF]
theorem afterF_1 (c : Dev nD) (t : Fin cfg0.N) : (datF m 0 c).after 1 t = iblk m c 1 t := by dsimp only [datF]
theorem afterF_2 (c : Dev nD) (t : Fin cfg0.N) : (datF m 0 c).after 2 t = iblk m c 2 t := by dsimp only [datF]
theorem afterF_3 (c : Dev nD) (t : Fin cfg0.N) : (datF m 0 c).after 3 t = iblk m c 3 t := by dsimp only [datF]
theorem afterF_4 (c : Dev nD) (t : Fin cfg0.N) : (datF m 0 c).after 4 t = iblk m c 4 t := by dsimp only [datF]
theorem beforeF_0 (c : Dev nD) (t : Fin cfg0.N) (d) : (datF m 0 c).before 0 t d = iblk m c 0 t :=
  before0_0_of m (datF m 0 c) (datF_A m c 0) (afterF_0 m c) t d
theorem beforeF_1 (c : Dev nD) (t : Fin cfg0.N) (d) : (datF m 0 c).before 1 t d = iblk m c 1 t :=
  before0_1_of m (datF m 0 c) (datF_A m c 1) (afterF_1 m c) t d
theorem beforeF_2 (c : Dev nD) (t : Fin cfg0.N) (d) : (datF m 0 c).before 2 t d = iblk m c 2 t :=
  before0_2_of m (datF m 0 c) (datF_A m c 2) (afterF_2 m c) t d
theorem beforeF_3 (c : Dev nD) (t : Fin cfg0.N) (d) : (datF m 0 c).before 3 t d = iblk m c 3 t :=
  before0_3_of m (datF m 0 c) (datF_A m c 3) (afterF_3 m c) t d
theorem beforeF_4 (c : Dev nD) (t : Fin cfg0.N) (d) : (datF m 0 c).before 4 t d = iblk m c 4 t :=
  before0_4_of m (datF m 0 c) (datF_A m c 4) (afterF_4 m c) t d

theorem leavesF (c : Dev nD) (w : Fin cfg0.W) (t : Fin cfg0.N) (h : cfg0.idle w (cfg0.grid.coords t) = false) :
    (datF m 0 c).leavesExact w t = owns (c : Thread nD τ) ((cfg0.win w).stage (cfg0.slots t w)) fullShare ((datF m 0 c).after w t) := by
  unfold Dat.leavesExact; rw [h]

def bodyPreF (c : Dev nD) (t : Fin cfg0.N) : sProp 𝕄 :=
  iprop((datF m 0 c).Φ t.castSucc ∗ (datF m 0 c).owesAt () t.castSucc
    ∗ (∃ d, owns (c : Thread nD τ) (ms0_0 t) fullShare ((datF m 0 c).before 0 t d))
    ∗ (∃ d, owns (c : Thread nD τ) (ms0_1 t) fullShare ((datF m 0 c).before 1 t d))
    ∗ (∃ d, owns (c : Thread nD τ) (ms0_2 t) fullShare ((datF m 0 c).before 2 t d))
    ∗ (∃ d, owns (c : Thread nD τ) (ms0_3 t) fullShare ((datF m 0 c).before 3 t d))
    ∗ (∃ d, owns (c : Thread nD τ) (ms0_4 t) fullShare ((datF m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

def bodyPostF (c : Dev nD) (t : Fin cfg0.N) : sProp 𝕄 :=
  iprop((datF m 0 c).Φ t.succ ∗ (datF m 0 c).owesAt () t.succ
    ∗ (datF m 0 c).leavesExact 0 t
    ∗ (datF m 0 c).leavesExact 1 t
    ∗ (datF m 0 c).leavesExact 2 t
    ∗ (datF m 0 c).leavesExact 3 t
    ∗ (datF m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 4000000 in
theorem sound_F (c : Dev nD) (t : Fin cfg0.N) :
    bodyPreF m c t ⊢ wp frame (wpE (defs₀ (F := F)) Variants.none c none) Set.univ (bodyAt0 t) (fun _ => bodyPostF m c t) := by
  have hlt : t.val < 33 := lt_of_lt_of_eq t.isLt (show cfg0.N = 33 from N_0)
  unfold bodyPreF bodyPostF bodyAt0
  simp only [beforeF_0, beforeF_1, beforeF_2, beforeF_3, beforeF_4]
  rw [show (datF m 0 c).owesAt () t.succ = (datF m 0 c).owesAt () t.castSucc from rfl, datF_Φ m c t.succ, datF_Φ m c t.castSucc, PhiA0_eq]
  rw [leavesF m c 0 t (liveAt0_0 t), afterF_0]
  rw [leavesF m c 1 t (liveAt0_1 t), afterF_1]
  rw [leavesF m c 2 t (liveAt0_2 t), afterF_2]
  rw [leavesF m c 3 t (liveAt0_3 t), afterF_3]
  rw [leavesF m c 4 t (liveAt0_4 t), afterF_4]
  have hc : t.val % 33 = 0 ∨ (1 ≤ t.val % 33 ∧ t.val % 33 ≤ 31) ∨ t.val % 33 = 32 := by omega
  rcases hc with h | h | h
  · iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A (F := F) c (grid0.coords t) _ _ _ _ _ _ _ _ _ _ _ _ _ _ _ _ _ _ _ _ _ _ _ _ _ _ _ _ _ _ _ _ _ _ _ _ ((hcond0_0 t).mpr (by omega)) (fun h1 => by have := (hcond0_1 t).mp h1; omega) (fun h1 => by have := (hcond0_2 t).mp h1; omega) (iblk m c 0 t) (iblk m c 1 t) (iblk m c 2 t) (iblk m c 3 t) (iblk m c 4 t) s0 s1 s2 s3 s4 s5 s6 s7).2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iapply (anything c _ _); iexact HS0
        isplitl [HS1]
        · iapply (anything c _ _); iexact HS1
        isplitl [HS2]
        · iexact HS2
        isplitl [HS3]
        · iapply (anything c _ _); iexact HS3
        isplitl [HS4]
        · iapply (anything c _ _); iexact HS4
        isplitl [HS5]
        · iexact HS5
        isplitl [HS6]
        · iapply (anything c _ _); iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (anything c _ _); iexact H8
    iapply (anything c _ _); iexact H9
  · iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B (F := F) c (grid0.coords t) _ _ _ _ _ _ _ _ _ _ _ _ _ _ _ _ _ _ _ _ _ _ _ _ _ _ _ _ _ _ _ _ _ _ _ _ (fun h1 => by have := (hcond0_0 t).mp h1; omega) ((hcond0_1 t).mpr (by omega)) (fun h1 => by have := (hcond0_2 t).mp h1; omega) (iblk m c 0 t) (iblk m c 1 t) (iblk m c 2 t) (iblk m c 3 t) (iblk m c 4 t) s0 s1 s2 s3 s4 s5 s6 s7).2.2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexists _; iexact HS0
        isplitl [HS1]
        · iexists _; iexact HS1
        isplitl [HS2]
        · iexact HS2
        isplitl [HS3]
        · iapply (anything c _ _); iexact HS3
        isplitl [HS4]
        · iapply (anything c _ _); iexact HS4
        isplitl [HS5]
        · iexact HS5
        isplitl [HS6]
        · iapply (anything c _ _); iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (anything c _ _); iexact H5
    isplitl [H6]; · iapply (anything c _ _); iexact H6
    isplitl [H7]; · iapply (anything c _ _); iexact H7
    isplitl [H8]; · iapply (anything c _ _); iexact H8
    iapply (anything c _ _); iexact H9
  · iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_C (F := F) c (grid0.coords t) _ _ _ _ _ _ _ _ _ _ _ _ _ _ _ _ _ _ _ _ _ _ _ _ _ _ _ _ _ _ _ _ _ _ _ _ (fun h1 => by have := (hcond0_0 t).mp h1; omega) (fun h1 => by have := (hcond0_1 t).mp h1; omega) ((hcond0_2 t).mpr (by omega)) (iblk m c 0 t) (iblk m c 1 t) (iblk m c 2 t) (iblk m c 3 t) (iblk m c 4 t) d8 d9 s0 s1 s2 s3 s4 s5 s6 s7).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]
        · iexists _; iexact HS0
        isplitl [HS1]
        · iexists _; iexact HS1
        isplitl [HS2]
        · iexact HS2
        isplitl [HS3]
        · iexists _; iexact HS3
        isplitl [HS4]
        · iexact HS4
        isplitl [HS5]
        · iexact HS5
        isplitl [HS6]
        · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (anything c _ _); iexact H5
    isplitl [H6]; · iapply (anything c _ _); iexact H6
    isplitl [H7]; · iapply (anything c _ _); iexact H7
    isplitl [H8]; · iexists _; iexact H8
    iexists _; iexact H9

theorem row_F (t : Fin cfg0.N) : defs₀ (F := F) .tc cfg0.body (cfg0.bodyArgs t (cfg0.slots t)) = bodyAt0 t := by
  unfold defs₀; rw [Defs.onTc_tc]

theorem obligation_F (c : Dev nD) : BodyObligation (datF (F := F) m 0 c) (defs₀ (F := F)) Variants.none () Set.univ fgt := fun t => by
  rw [bigSep_W0, bigSep_W0, row_F]
  exact triple_restated (sound_F m c t) rfl .rfl fun _ => .rfl

theorem in_F (c : Dev nD) : Pipeline.ΦA spec0 c ⊢ (datF m 0 c).Φ 0 := Entails.of_eq (datF_Φ m c 0).symm
theorem out_F (c : Dev nD) : (datF m 0 c).Φ (Fin.last cfg0.N) ⊢ Pipeline.ΦA spec0 c := Entails.of_eq (datF_Φ m c _)

set_option backward.isDefEq.respectTransparency.types false in
theorem run_F : θ_run defs (onTc (τ := τ) (main (F := F))) (s₀ m ρ)
    (fun r => (Pipeline.RDat.FramePost (cfgs 0) (fun c => (datF m 0 c).toRForget fgt) (V m)) r ∧ r.2.sem = fun _ => 0) :=
  Pipeline.θ_run_frame_track_forget (Q' := _) cfgs (datF m) (0 : Fin 1) launch0 defs₀ Variants.none fgt m ρ main
    (hbody := fun c => (obligation_F m c).loose) (hshare := fun c => (datF m 0 c).share_full fun _ => rfl)
    (howed := fun _ _ => rfl) (V := V m) (hmain := hmain m Variants.none) (hA := datF_A m) (hin := in_F m) (hout := out_F m)

/-- The arguments end as they were. -/
theorem kept_F : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_arg0 (Pipeline.mem_restRefs_of main_arg0 (by decide) (by decide))).trans (V_main_arg0 m c),
      ((congrFun (((datF m 0 c).toRForget fgt).ArrAt_in 2 rfl _) _).mp ((h.1 c).1 2)).trans ((datF_A m c 2).trans (V_main_arg1 m c)),
      ((congrFun (((datF m 0 c).toRForget fgt).ArrAt_in 0 rfl _) _).mp ((h.1 c).1 0)).trans ((datF_A m c 0).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_F m ρ)

/-- The frame at any floats. -/
theorem frame_F : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (kept_F m ρ) ((θ_run defs _ _).mono (fun _ h => h.2) (run_F m ρ))

end Cert.Mla

end
-- ==== Proof.Mla.Same.lean ====
/-
  The kernel's frame: the idealized kernel is the kernel's own text, so the frame proved of that text at any floats, read at
  bit patterns, is the kernel's.
-/
module

public import proofs.«01_k».proof.Defs
public import proofs.«01_k».proof.Proof.Gen.Kernel
public import proofs.«01_k».proof.Proof.Mla.Frame

@[expose] public section

set_option maxRecDepth 16384

noncomputable section

namespace Cert.Mla

open Idealize.ShloMosaic Idealize.SL.Sem
open Idealize.ShloMosaic.TcCoe Idealize.ShloMosaic.Tactic

/-- The frame at bit patterns, of the text as the idealized kernel prints it. -/
def FrameBits : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0)

theorem frameBits : FrameBits := fun m g _ => frame_F (F := Bits) m g

/-- The two programs being one text, the statements about them are one statement. -/
theorem same : quiescent_Kernel (hKernel := Cert.Kernel.Gen.facts) = FrameBits := by
  sl_kernel_rfl

/-- The kernel's frame. -/
theorem frame_K : quiescent_Kernel (hKernel := Cert.Kernel.Gen.facts) := same ▸ frameBits

end Cert.Mla

end
-- ==== Proof.Mla.Spec.lean ====
/-
  The five results as functions of the rows, the weights, the weight scales and the gains; and the blocks the kernel
  writes, in those terms.
-/
module

public import proofs.«01_k».proof.Proof.Mla.Weights

@[expose] public section

noncomputable section

namespace Cert.Mla

open Idealize.ShloMosaic hiding ix1 ix2 eq_ix2
open Idealize.ShloMosaic.TcCoe Idealize.ShloMosaic.Tactic Idealize.ShloMosaic.ValueIdx
open Cert.KernelIdeal Cert.KernelIdeal.Gen

/-- A dequantized weight: row `j` of the weights, scaled by the scale of its block of 128 rows and 128 columns. -/
def wAt (ws : Vec Ideal S17x32 .f32) (w : Vec Ideal S2112x4096 .fp8e4m3) (j : Fin 2112) (k : Fin 4096) : EReal :=
  w (ix2 j k) * ws (ix2 (⟨j.val / 128, by have := j.isLt; omega⟩ : Fin 17) (gOf k))

/-- The product of a quantized row with row `j` of the weights. -/
def yAt (ws : Vec Ideal S17x32 .f32) (w : Vec Ideal S2112x4096 .fp8e4m3) (xr : Fin 4096 → EReal) (j : Fin 2112) : EReal :=
  ∑ k : Fin 4096, xaAt xr k * wAt ws w j k

/-- A row of each of the first three results. -/
def qAt (ws : Vec Ideal S17x32 .f32) (w : Vec Ideal S2112x4096 .fp8e4m3) (g : Fin 1536 → EReal) (xr : Fin 4096 → EReal) (j : Fin 1536) : EReal :=
  normAt 0x44C00000#32 (fun k : Fin 1536 => yAt ws w xr ⟨k.val, by have := k.isLt; omega⟩) g j
def cAt (ws : Vec Ideal S17x32 .f32) (w : Vec Ideal S2112x4096 .fp8e4m3) (g : Fin 512 → EReal) (xr : Fin 4096 → EReal) (j : Fin 512) : EReal :=
  normAt 0x44000000#32 (fun k : Fin 512 => yAt ws w xr ⟨1536 + k.val, by have := k.isLt; omega⟩) g j
def kAt (ws : Vec Ideal S17x32 .f32) (w : Vec Ideal S2112x4096 .fp8e4m3) (xr : Fin 4096 → EReal) (j : Fin 64) : EReal :=
  yAt ws w xr ⟨2048 + j.val, by have := j.isLt; omega⟩

theorem yG_apply (ws : Vec Ideal S17x32 .f32) (w : Vec Ideal S2112x4096 .fp8e4m3) (x : Vec Ideal S512x4096 .bf16) (r : Nat)
    (hr : r + 256 ≤ 512) (i : Fin 256) (c : Fin 2048) (i' : Fin 512) (j : Fin 2112) (hi : i'.val = r + i.val) (hj : j.val = c.val) :
    yG (xaG x r hr) (wtG ws w) (ix2 i c) = yAt ws w (rowOf x i') j := by
  have hb : r + i.val < 512 := by have := i.isLt; omega
  obtain rfl : i' = ⟨r + i.val, hb⟩ := Fin.ext hi
  have hc : c.val < 2112 := by have := c.isLt; omega
  obtain rfl : j = ⟨c.val, hc⟩ := Fin.ext hj
  rfl

theorem kpG_apply (ws : Vec Ideal S17x32 .f32) (w : Vec Ideal S2112x4096 .fp8e4m3) (x : Vec Ideal S512x4096 .bf16) (r : Nat)
    (hr : r + 256 ≤ 512) (i : Fin 256) (c : Fin 64) (i' : Fin 512) (hi : i'.val = r + i.val) :
    kpG (xaG x r hr) (wpG ws w) (ix2 c i) = kAt ws w (rowOf x i') c := by
  have hb : r + i.val < 512 := by have := i.isLt; omega
  obtain rfl : i' = ⟨r + i.val, hb⟩ := Fin.ext hi
  unfold kAt yAt
  refine Finset.sum_congr rfl fun k _ => (mul_comm _ _).trans ?_
  have e : (⟨(2048 + c.val) / 128, by have := c.isLt; omega⟩ : Fin 17) = 16 := Fin.ext (by
    show (2048 + c.val) / 128 = 16; have := c.isLt; omega)
  unfold wAt
  exact congrArg (fun z => _ * (_ * ws (ix2 z _))) e.symm

theorem halves_apply (ws : Vec Ideal S17x32 .f32) (w : Vec Ideal S2112x4096 .fp8e4m3) (x : Vec Ideal S512x4096 .bf16)
    (h0 : 0 + 256 ≤ 512) (h1 : 256 + 256 ≤ 512) (i : Fin 512) (c : Fin 2048) (j : Fin 2112) (hj : j.val = c.val) :
    halves (yG (xaG x 0 h0) (wtG ws w)) (yG (xaG x 256 h1) (wtG ws w)) i c = yAt ws w (rowOf x i) j := by
  by_cases h : i.val < 256
  · exact (halves_lo _ _ i c ⟨i.val, h⟩ rfl).trans (yG_apply ws w x 0 h0 _ c i j (Nat.zero_add _).symm hj)
  · have hi := i.isLt
    have e : i.val = 256 + (i.val - 256) := by omega
    exact (halves_hi _ _ i c ⟨i.val - 256, by omega⟩ e).trans (yG_apply ws w x 256 h1 _ c i j e hj)

theorem qG_apply (ws : Vec Ideal S17x32 .f32) (w : Vec Ideal S2112x4096 .fp8e4m3) (x : Vec Ideal S512x4096 .bf16)
    (h0 : 0 + 256 ≤ 512) (h1 : 256 + 256 ≤ 512) (g : Vec Ideal S1x1536 .bf16) (y : S512x1536.Idx) :
    qG (yG (xaG x 0 h0) (wtG ws w)) (yG (xaG x 256 h1) (wtG ws w)) g y
      = qAt ws w (rowOf g (0 : Fin 1)) (rowOf x (y 0)) (y 1) := by
  unfold qG qAt
  exact congrArg (fun f => normAt 0x44C00000#32 f (rowOf g (0 : Fin 1)) (y 1))
    (funext fun k => halves_apply ws w x h0 h1 (y 0) _ _ rfl)

theorem cG_apply (ws : Vec Ideal S17x32 .f32) (w : Vec Ideal S2112x4096 .fp8e4m3) (x : Vec Ideal S512x4096 .bf16)
    (h0 : 0 + 256 ≤ 512) (h1 : 256 + 256 ≤ 512) (g : Vec Ideal S1x512 .bf16) (y : S512x512.Idx) :
    cG (yG (xaG x 0 h0) (wtG ws w)) (yG (xaG x 256 h1) (wtG ws w)) g y
      = cAt ws w (rowOf g (0 : Fin 1)) (rowOf x (y 0)) (y 1) := by
  unfold cG cAt
  exact congrArg (fun f => normAt 0x44000000#32 f (rowOf g (0 : Fin 1)) (y 1))
    (funext fun k => halves_apply ws w x h0 h1 (y 0) _ _ rfl)

theorem kG_apply (ws : Vec Ideal S17x32 .f32) (w : Vec Ideal S2112x4096 .fp8e4m3) (x : Vec Ideal S512x4096 .bf16)
    (h0 : 0 + 256 ≤ 512) (h1 : 256 + 256 ≤ 512) (y : S512x64.Idx) :
    kG (kpG (xaG x 0 h0) (wpG ws w)) (kpG (xaG x 256 h1) (wpG ws w)) y = kAt ws w (rowOf x (y 0)) (y 1) := by
  have hy : (y 0).val < 512 := (y 0).isLt
  unfold kG
  by_cases h : (y 0).val < 256
  · rw [dif_pos h]
    exact kpG_apply ws w x 0 h0 _ (y 1) (y 0) (Nat.zero_add _).symm
  · rw [dif_neg h]
    exact kpG_apply ws w x 256 h1 _ (y 1) (y 0) (by show (y 0).val = 256 + ((y 0).val - 256); omega)

/-! ## The five results -/

variable (X : Vec Ideal S16384x4096 .bf16) (W : Vec Ideal S2112x4096 .fp8e4m3) (WS : Vec Ideal S17x32 .f32)
  (GQ : Vec Ideal S1x1536 .bf16) (GC : Vec Ideal S1x512 .bf16)

def qS : Vec Ideal S16384x1536 .bf16 := fun y => qAt WS W (rowOf GQ (0 : Fin 1)) (rowOf X (y 0)) (y 1)
def cS : Vec Ideal S16384x512 .bf16 := fun y => cAt WS W (rowOf GC (0 : Fin 1)) (rowOf X (y 0)) (y 1)
def kS : Vec Ideal S16384x64 .bf16 := fun y => kAt WS W (rowOf X (y 0)) (y 1)
def codesS : Vec Ideal S16384x4096 .fp8e4m3 := fun y => codeAt (rowOf X (y 0)) (y 1)
def scalesS : Vec Ideal S16384x32 .f32 := fun y => xsAt (rowOf X (y 0)) (y 1)

end Cert.Mla

end
-- ==== Proof.Mla.Final.lean ====
/-
  The kernel's five result arrays after the run, as functions of its arguments.
-/
module

public import proofs.«01_k».proof.Proof.Mla.Run
public import proofs.«01_k».proof.Proof.Mla.Spec
public import Idealize.ShloMosaic.Lib.Pipeline.ValueKit

@[expose] public section

set_option maxRecDepth 16384

noncomputable section

namespace Cert.Mla

open Idealize.ShloMosaic hiding ix1 ix2 eq_ix2
open Idealize Idealize.SL Idealize.SL.RA Idealize.SL.BI
open Idealize.SL.Sem
open Idealize.ShloMosaic.TcCoe Idealize.ShloMosaic.Tactic Idealize.ShloMosaic.ValueIdx
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

theorem ix_0 : ∀ t : Fin cfg0.N, win0_0.index t = ![0, 0] := (by decide +kernel : ∀ t : Fin grid0.N, win0_0.index t = ![0, 0])
theorem ix_1 : ∀ t : Fin cfg0.N, win0_1.index t = ![min t.val 31, 0] := (by decide +kernel : ∀ t : Fin grid0.N, win0_1.index t = ![min t.val 31, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![t.val - 1, 0] := (by decide +kernel : ∀ t : Fin grid0.N, win0_5.index t = ![t.val - 1, 0])
theorem ix_6 : ∀ t : Fin cfg0.N, win0_6.index t = ![t.val - 1, 0] := (by decide +kernel : ∀ t : Fin grid0.N, win0_6.index t = ![t.val - 1, 0])
theorem ix_7 : ∀ t : Fin cfg0.N, win0_7.index t = ![t.val - 1, 0] := (by decide +kernel : ∀ t : Fin grid0.N, win0_7.index t = ![t.val - 1, 0])
theorem ix_8 : ∀ t : Fin cfg0.N, win0_8.index t = ![min t.val 31, 0] := (by decide +kernel : ∀ t : Fin grid0.N, win0_8.index t = ![min t.val 31, 0])
theorem ix_9 : ∀ t : Fin cfg0.N, win0_9.index t = ![min t.val 31, 0] := (by decide +kernel : ∀ t : Fin grid0.N, win0_9.index t = ![min t.val 31, 0])

/-! ## The blocks read -/

theorem wsB_eq (c : Dev nD) : wsB m c = V m c main_arg2 := by
  funext y
  show iblk m c 0 (pt 0) y = _
  blk_simp [iblk]
  refine congrArg (V m c main_arg2) ?_
  blk_ext [ix_0]

theorem wB_eq (c : Dev nD) : wB m c = V m c main_arg1 := by
  funext y
  show iblk m c 2 (pt 0) y = _
  blk_simp [iblk]
  refine congrArg (V m c main_arg1) ?_
  blk_ext [ix_2]

theorem gq_eq (c : Dev nD) (t : Fin cfg0.N) : (iblk m c 3 t : Vec Ideal S1x1536 .bf16) = V m c main_v1 := by
  funext y
  blk_simp [iblk]
  refine congrArg (V m c main_v1) ?_
  blk_ext [ix_3]

theorem gc_eq (c : Dev nD) (t : Fin cfg0.N) : (iblk m c 4 t : Vec Ideal S1x512 .bf16) = V m c main_v2 := by
  funext y
  blk_simp [iblk]
  refine congrArg (V m c main_v2) ?_
  blk_ext [ix_4]

theorem pt_min (n : ℕ) : (pt n).val = min n 31 := rfl

theorem xB_row (c : Dev nD) (n : ℕ) (i : Fin 512) (r : Fin 16384) (h : r.val = 512 * min n 31 + i.val) :
    rowOf (xB m c n) i = rowOf (V m c main_v0 : Vec Ideal S16384x4096 .bf16) r := by
  funext k
  show iblk m c 1 (pt n) (ix2 i k) = V m c main_v0 (ix2 r k)
  blk_simp [iblk]
  refine congrArg (V m c main_v0) ?_
  refine Shape.idx_ext₂ ?_ ?_
  · blk_simp [ix_1]
    rw [pt_min]
    show _ = r.val
    rw [h]
    show _ * 512 + i.val = _
    omega
  · blk_simp [ix_1]

/-! ## The arrays written -/

theorem fin_5 (c : Dev nD) : (datR m 0 c).arrAt 5 cfg0.N
    = qS (V m c main_v0) (V m c main_arg1) (V m c main_arg2) (V m c main_v1) := by
  refine (datR m 0 c).arrAt_eq_of_covers 5 _ (by decide +kernel) fun t hf y => ?_
  blk_simp
  rw [after_5]
  have ht : t.val ≠ 0 := by
    have := (flush_out t).1
    rw [hf] at this
    exact of_decide_eq_true this.symm
  have h33 := lt33 t
  refine (qG_apply (wsB m c) (wB m c) (xB m c (t.val - 1)) _ _ (iblk m c 3 t) y).trans ?_
  rw [wsB_eq, wB_eq, gq_eq]
  have hr := xB_row m c (t.val - 1) (y 0) (((win0_5.blk t).view.emb y) 0) (by
    blk_simp [ix_5]
    show (t.val - 1) * 512 + (y 0).val = _
    omega)
  have hc : (y 1) = (((win0_5.blk t).view.emb y) 1) := Fin.ext (by blk_simp [ix_5])
  exact (congrArg (fun z => qAt (V m c main_arg2) (V m c main_arg1) (rowOf (V m c main_v1) (0 : Fin 1)) z (y 1)) hr).trans (congrArg (qAt (V m c main_arg2) (V m c main_arg1) (rowOf (V m c main_v1) (0 : Fin 1)) _) hc)

theorem fin_6 (c : Dev nD) : (datR m 0 c).arrAt 6 cfg0.N
    = cS (V m c main_v0) (V m c main_arg1) (V m c main_arg2) (V m c main_v2) := by
  refine (datR m 0 c).arrAt_eq_of_covers 6 _ (by decide +kernel) fun t hf y => ?_
  blk_simp
  rw [after_6]
  have ht : t.val ≠ 0 := by
    have := (flush_out t).2.1
    rw [hf] at this
    exact of_decide_eq_true this.symm
  have h33 := lt33 t
  refine (cG_apply (wsB m c) (wB m c) (xB m c (t.val - 1)) _ _ (iblk m c 4 t) y).trans ?_
  rw [wsB_eq, wB_eq, gc_eq]
  have hr := xB_row m c (t.val - 1) (y 0) (((win0_6.blk t).view.emb y) 0) (by
    blk_simp [ix_6]
    show (t.val - 1) * 512 + (y 0).val = _
    omega)
  have hc : (y 1) = (((win0_6.blk t).view.emb y) 1) := Fin.ext (by blk_simp [ix_6])
  exact (congrArg (fun z => cAt (V m c main_arg2) (V m c main_arg1) (rowOf (V m c main_v2) (0 : Fin 1)) z (y 1)) hr).trans (congrArg (cAt (V m c main_arg2) (V m c main_arg1) (rowOf (V m c main_v2) (0 : Fin 1)) _) hc)

theorem fin_7 (c : Dev nD) : (datR m 0 c).arrAt 7 cfg0.N
    = kS (V m c main_v0) (V m c main_arg1) (V m c main_arg2) := by
  refine (datR m 0 c).arrAt_eq_of_covers 7 _ (by decide +kernel) fun t hf y => ?_
  blk_simp
  rw [after_7]
  have ht : t.val ≠ 0 := by
    have := (flush_out t).2.2
    rw [hf] at this
    exact of_decide_eq_true this.symm
  have h33 := lt33 t
  refine (kG_apply (wsB m c) (wB m c) (xB m c (t.val - 1)) _ _ y).trans ?_
  rw [wsB_eq, wB_eq]
  have hr := xB_row m c (t.val - 1) (y 0) (((win0_7.blk t).view.emb y) 0) (by
    blk_simp [ix_7]
    show (t.val - 1) * 512 + (y 0).val = _
    omega)
  have hc : (y 1) = (((win0_7.blk t).view.emb y) 1) := Fin.ext (by blk_simp [ix_7])
  exact (congrArg (fun z => kAt (V m c main_arg2) (V m c main_arg1) z (y 1)) hr).trans (congrArg (kAt (V m c main_arg2) (V m c main_arg1) _) hc)

theorem fin_8 (c : Dev nD) : (datR m 0 c).arrAt 8 cfg0.N = codesS (V m c main_v0) := by
  refine (datR m 0 c).arrAt_eq_of_covers 8 _ (by decide +kernel) fun t hf y => ?_
  blk_simp
  rw [after_8]
  have h33 := lt33 t
  have hr := xB_row m c t.val (y 0) (((win0_8.blk t).view.emb y) 0) (by
    blk_simp [ix_8]
    show (min t.val 31) * 512 + (y 0).val = _
    omega)
  have hc : (y 1) = (((win0_8.blk t).view.emb y) 1) := Fin.ext (by blk_simp [ix_8])
  exact (congrArg (fun z => codeAt z (y 1)) hr).trans (congrArg (codeAt _) hc)

theorem fin_9 (c : Dev nD) : (datR m 0 c).arrAt 9 cfg0.N = scalesS (V m c main_v0) := by
  refine (datR m 0 c).arrAt_eq_of_covers 9 _ (by decide +kernel) fun t hf y => ?_
  blk_simp
  rw [after_9]
  have h33 := lt33 t
  have hr := xB_row m c t.val (y 0) (((win0_9.blk t).view.emb y) 0) (by
    blk_simp [ix_9]
    show (min t.val 31) * 512 + (y 0).val = _
    omega)
  have hc : (y 1) = (((win0_9.blk t).view.emb y) 1) := Fin.ext (by blk_simp [ix_9])
  exact (congrArg (fun z => xsAt z (y 1)) hr).trans (congrArg (xsAt _) hc)

end Cert.Mla

end
-- ==== Proof.Mla.RefHost.lean ====
/-
  What the reference's host computations leave in the buffers its region reads: the scales, their inverses, and the
  weight scales repeated over their blocks.
-/
module

public import proofs.«01_k».proof.Proof.Gen.ReferenceIdeal.Value
public import proofs.«01_k».proof.Proof.Mla.Spec
public import Idealize.ShloMosaic.Lib.Pipeline.ValueKit
public import Idealize.ShloMosaic.Lib.IdealHost
public import Idealize.ShloMosaic.Lib.StableHlo.RunRead

@[expose] public section

set_option maxRecDepth 16384

noncomputable section

namespace Cert.Mla.Ref

open Idealize.ShloMosaic hiding ix1 ix2 ix3 eq_ix2 eq_ix3
open Idealize Idealize.SL Idealize.SL.Sem
open Idealize.ShloMosaic.TcCoe Idealize.ShloMosaic.Tactic Idealize.ShloMosaic.ValueIdx
open Cert.ReferenceIdeal Cert.ReferenceIdeal.Gen

variable (m : (ℓ : Loc nD τ sig) → Buf (Elt Ideal) ℓ) (ρ : Dev nD → PrngReg)

/-- The largest magnitude of each group over 448. -/
def hostRatio (x : Vec Ideal S2x8192x4096 .bf16) : Vec Ideal S16384x32 .f32 :=
  Host.divf (Host.reduce FloatOps.maximumf (Host.absf (shapeCast S16384x32x128 (extf .f32 x bitsLt_bf16_f32) shapeCasts_S2x8192x4096_S16384x32x128))
      (constant (F := Ideal) S_ .f32 0xFF800000#32) reducesTo_S16384x32x128_S16384x32_d2 h_S_)
    (broadcastInDim S16384x32 ![] bcast_S_S16384x32 (constant (F := Ideal) S_ .f32 0x43E00000#32))

/-- The exponent of each group's scale. -/
def hostExp (x : Vec Ideal S2x8192x4096 .bf16) : Vec Ideal S16384x32 .f32 :=
  select (cmpf .olt (hostRatio x) (broadcastInDim S16384x32 ![] bcast_S_S16384x32 (constant (F := Ideal) S_ .f32 0x00800000#32)))
    (broadcastInDim S16384x32 ![] bcast_S_S16384x32 (constant (F := Ideal) S_ .f32 0x00000000#32))
    (minimumf (addf (Host.floor (Host.divf (Host.log (hostRatio x))
        (broadcastInDim S16384x32 ![] bcast_S_S16384x32 (Host.log (constant (F := Ideal) S_ .f32 0x40000000#32)))))
        (broadcastInDim S16384x32 ![] bcast_S_S16384x32 (constant (F := Ideal) S_ .f32 0x3F800000#32)))
      (broadcastInDim S16384x32 ![] bcast_S_S16384x32 (constant (F := Ideal) S_ .f32 0x42F00000#32)))

/-- The scales and their inverses. -/
def hostScale (x : Vec Ideal S2x8192x4096 .bf16) : Vec Ideal S16384x32 .f32 :=
  Host.powf (broadcastInDim S16384x32 ![] bcast_S_S16384x32 (constant (F := Ideal) S_ .f32 0x40000000#32)) (hostExp x)
def hostInv (x : Vec Ideal S2x8192x4096 .bf16) : Vec Ideal S16384x32 .f32 :=
  Host.powf (broadcastInDim S16384x32 ![] bcast_S_S16384x32 (constant (F := Ideal) S_ .f32 0x40000000#32)) (Host.negf (hostExp x))

/-- A group's number at each of its columns. -/
def spread (v : Vec Ideal S16384x32 .f32) : Vec Ideal S16384x4096 .f32 :=
  shapeCast S16384x4096 (broadcastInDim S16384x32x128 ![0, 1] bcast_S16384x32_S16384x32x128_0_1 v) shapeCasts_S16384x32x128_S16384x4096

/-- The weight scales at each row and column of their blocks. -/
def spreadW (ws : Vec Ideal S17x32 .f32) : Vec Ideal S2112x4096 .f32 :=
  extractStridedSlice S2112x4096 ![0, 0] (shapeCast S2176x4096 (broadcastInDim S2176x32x128 ![0, 1] bcast_S2176x32_S2176x32x128_0_1
    (shapeCast S2176x32 (broadcastInDim S17x128x32 ![0, 2] bcast_S17x32_S17x128x32_0_2 ws) shapeCasts_S17x128x32_S2176x32))
    shapeCasts_S2176x32x128_S2176x4096) slices_S2176x4096_S2112x4096_0_0

/-! ## The reads -/

theorem V_v19 (c : Dev nD) : V m c main_v19 = hostScale (m ((c : Thread nD τ).loc main_arg0)) := by
  unfold V
  after_reads_simp
  rfl
theorem V_v24 (c : Dev nD) : V m c main_v24 = spread (hostInv (m ((c : Thread nD τ).loc main_arg0))) := by
  unfold V
  after_reads_simp
  rfl
theorem V_v27 (c : Dev nD) : V m c main_v27 = spread (hostScale (m ((c : Thread nD τ).loc main_arg0))) := by
  unfold V
  after_reads_simp
  rfl
theorem V_v33 (c : Dev nD) : V m c main_v33 = spreadW (m ((c : Thread nD τ).loc main_arg2)) := by
  unfold V
  after_reads_simp
  rfl
theorem V_v34 (c : Dev nD) : V m c main_v34
    = shapeCast S16384x4096 (m ((c : Thread nD τ).loc main_arg0)) shapeCasts_S2x8192x4096_S16384x4096 := by
  unfold V
  after_reads_simp
  rfl
theorem V_v35 (c : Dev nD) : V m c main_v35 = shapeCast S1x1536 (m ((c : Thread nD τ).loc main_arg3)) shapeCasts_S1536_S1x1536 := by
  unfold V
  after_reads_simp
  rfl
theorem V_v36 (c : Dev nD) : V m c main_v36 = shapeCast S1x512 (m ((c : Thread nD τ).loc main_arg4)) shapeCasts_S512_S1x512 := by
  unfold V
  after_reads_simp
  rfl

/-! ## Their elements -/

/-- The rows. -/
def rows (x : Vec Ideal S2x8192x4096 .bf16) : Vec Ideal S16384x4096 .bf16 :=
  shapeCast S16384x4096 x shapeCasts_S2x8192x4096_S16384x4096

theorem groups_apply (x : Vec Ideal S2x8192x4096 .bf16) (r : Fin 16384) (g : Fin 32) (k : Fin 128) :
    shapeCast S16384x32x128 x shapeCasts_S2x8192x4096_S16384x32x128 (ix3 r g k) = grp (rowOf (rows x) r) g k := by
  have hr := r.isLt
  have hg := g.isLt
  have hk := k.isLt
  have e1 := shapeCast_apply x shapeCasts_S2x8192x4096_S16384x32x128 (ix3 r g k)
    (ix3 (⟨r.val / 8192, by omega⟩ : Fin 2) (⟨r.val % 8192, by omega⟩ : Fin 8192) (⟨128 * g.val + k.val, by omega⟩ : Fin 4096)) (by
      rw [Shape.rowMajor_val_three, Shape.rowMajor_val_three]
      show (r.val / 8192 * 8192 + r.val % 8192) * 4096 + (128 * g.val + k.val) = (r.val * 32 + g.val) * 128 + k.val
      omega)
  have e2 := shapeCast_apply x shapeCasts_S2x8192x4096_S16384x4096 (ix2 r (⟨128 * g.val + k.val, by omega⟩ : Fin 4096))
    (ix3 (⟨r.val / 8192, by omega⟩ : Fin 2) (⟨r.val % 8192, by omega⟩ : Fin 8192) (⟨128 * g.val + k.val, by omega⟩ : Fin 4096)) (by
      rw [Shape.rowMajor_val_three, Shape.rowMajor_val_two]
      show (r.val / 8192 * 8192 + r.val % 8192) * 4096 + (128 * g.val + k.val) = r.val * 4096 + (128 * g.val + k.val)
      omega)
  exact e1.trans e2.symm

theorem red3 : S16384x32x128.Reduces [2] S16384x32 := by decide

theorem groupMax_apply (x : Vec Ideal S2x8192x4096 .bf16) (r : Fin 16384) (g : Fin 32) :
    Host.reduce FloatOps.maximumf (Host.absf (shapeCast S16384x32x128 (extf (F := Ideal) .f32 x bitsLt_bf16_f32) shapeCasts_S2x8192x4096_S16384x32x128))
      (constant (F := Ideal) S_ .f32 0xFF800000#32) reducesTo_S16384x32x128_S16384x32_d2 h_S_ (ix2 r g)
      = amax (grp (rowOf (rows x) r) g) := by
  have hbot : Ideal.ieee 8 23 0xFF800000#32 = ⊥ := by simp [Ideal.ieee]
  refine (Host.reduce_eq_fold_single (max : EReal → EReal → EReal) _ _ _ red3 _ _).trans ?_
  show Finset.fold max (Ideal.ieee 8 23 0xFF800000#32) _ _ = _
  rw [hbot]
  refine (fold_max_eq_sup _).trans ?_
  unfold amax
  refine congrArg _ (funext fun k => ?_)
  have e : red3.lift (ix2 r g) k = ix3 r g k := funext fun a => Fin.ext (by
    rw [Shape.Reduces.lift_val]
    match a with | ⟨0, _⟩ => rfl | ⟨1, _⟩ => rfl | ⟨2, _⟩ => rfl)
  show max (shapeCast S16384x32x128 x _ (red3.lift (ix2 r g) k)) (-(shapeCast S16384x32x128 x _ (red3.lift (ix2 r g) k))) = _
  rw [e]
  exact congrArg (fun z => max z (-z)) (groups_apply x r g k)

theorem lit448 : Ideal.ieee 8 23 0x43E00000#32 = ((448 : ℝ) : EReal) := by
  simp [Ideal.ieee, -EReal.coe_mul]; norm_num
theorem lit2 : Ideal.ieee 8 23 0x40000000#32 = ((2 : ℝ) : EReal) := by
  simp [Ideal.ieee, -EReal.coe_mul]; norm_num
theorem lit120 : Ideal.ieee 8 23 0x42F00000#32 = ((120 : ℝ) : EReal) := by
  simp [Ideal.ieee, -EReal.coe_mul]; norm_num
theorem lit1 : Ideal.ieee 8 23 0x3F800000#32 = ((1 : ℝ) : EReal) := by
  simp [Ideal.ieee, -EReal.coe_mul]; norm_num
theorem litTiny : Ideal.ieee 8 23 0x00800000#32 = (((2 : ℝ) ^ (-126 : ℤ) : ℝ) : EReal) := by
  simp [Ideal.ieee, -EReal.coe_mul]; norm_num
theorem lit0 : Ideal.ieee 8 23 0x00000000#32 = 0 := by simp [Ideal.ieee]

theorem hostRatio_apply (x : Vec Ideal S2x8192x4096 .bf16) (r : Fin 16384) (g : Fin 32) :
    hostRatio x (ix2 r g) = Ideal.div (amax (grp (rowOf (rows x) r) g)) (448 : ℝ) := by
  unfold hostRatio
  refine (hostDivf_apply _ _ _).trans ?_
  rw [groupMax_apply]
  exact congrArg (Ideal.div _) lit448

theorem hostExp_apply (x : Vec Ideal S2x8192x4096 .bf16) (r : Fin 16384) (g : Fin 32) :
    hostExp x (ix2 r g) = refExp (amax (grp (rowOf (rows x) r) g)) := by
  show (if Ideal.cmp .olt (hostRatio x (ix2 r g)) (Ideal.ieee 8 23 0x00800000#32) = 1#1 then Ideal.ieee 8 23 0x00000000#32
    else min (Ideal.liftRound Int.floor (Ideal.div (Ideal.log (hostRatio x (ix2 r g))) (Ideal.log (Ideal.ieee 8 23 0x40000000#32)))
      + Ideal.ieee 8 23 0x3F800000#32) (Ideal.ieee 8 23 0x42F00000#32)) = _
  rw [hostRatio_apply, litTiny, lit0, lit2, lit1, lit120]
  unfold refExp
  simp only [cmp_olt]

theorem hostScale_apply (x : Vec Ideal S2x8192x4096 .bf16) (r : Fin 16384) (g : Fin 32) :
    hostScale x (ix2 r g) = xsAt (rowOf (rows x) r) g := by
  show Ideal.pow (Ideal.ieee 8 23 0x40000000#32) (hostExp x (ix2 r g)) = _
  rw [hostExp_apply, lit2]
  rfl

theorem hostInv_apply (x : Vec Ideal S2x8192x4096 .bf16) (r : Fin 16384) (g : Fin 32) :
    hostInv x (ix2 r g) = invOf (grp (rowOf (rows x) r) g) := by
  show Ideal.pow (Ideal.ieee 8 23 0x40000000#32) (-(hostExp x (ix2 r g))) = _
  rw [hostExp_apply, lit2]
  rfl

theorem spread_apply (v : Vec Ideal S16384x32 .f32) (r : Fin 16384) (k : Fin 4096) :
    spread v (ix2 r k) = v (ix2 r (gOf k)) := by
  have hk := k.isLt
  unfold spread
  refine (shapeCast_apply _ _ (ix2 r k) (ix3 r (gOf k) (⟨k.val % 128, by omega⟩ : Fin 128)) ?_).trans ?_
  · rw [Shape.rowMajor_val_three, Shape.rowMajor_val_two]
    show (r.val * 32 + k.val / 128) * 128 + k.val % 128 = r.val * 4096 + k.val
    omega
  · exact broadcastInDim_apply _ _ _ _ _ (by intro a; match a with | ⟨0, _⟩ => rfl | ⟨1, _⟩ => rfl)

theorem spreadW_apply (ws : Vec Ideal S17x32 .f32) (j : Fin 2112) (k : Fin 4096) :
    spreadW ws (ix2 j k) = ws (ix2 (⟨j.val / 128, by have := j.isLt; omega⟩ : Fin 17) (gOf k)) := by
  have hj := j.isLt
  have hk := k.isLt
  unfold spreadW
  refine (extractStridedSlice_apply _ _ _ (ix2 j k) (ix2 (⟨j.val, by omega⟩ : Fin 2176) k) (by
    intro a; match a with | ⟨0, _⟩ => exact (Nat.zero_add _).symm | ⟨1, _⟩ => exact (Nat.zero_add _).symm)).trans ?_
  refine (shapeCast_apply _ _ (ix2 (⟨j.val, by omega⟩ : Fin 2176) k) (ix3 (⟨j.val, by omega⟩ : Fin 2176) (gOf k) (⟨k.val % 128, by omega⟩ : Fin 128)) ?_).trans ?_
  · rw [Shape.rowMajor_val_three, Shape.rowMajor_val_two]
    show (j.val * 32 + k.val / 128) * 128 + k.val % 128 = j.val * 4096 + k.val
    omega
  refine (broadcastInDim_apply _ _ _ _ (ix2 (⟨j.val, by omega⟩ : Fin 2176) (gOf k)) (by intro a; match a with | ⟨0, _⟩ => rfl | ⟨1, _⟩ => rfl)).trans ?_
  refine (shapeCast_apply _ _ (ix2 (⟨j.val, by omega⟩ : Fin 2176) (gOf k)) (ix3 (⟨j.val / 128, by omega⟩ : Fin 17) (⟨j.val % 128, by omega⟩ : Fin 128) (gOf k)) ?_).trans ?_
  · rw [Shape.rowMajor_val_three, Shape.rowMajor_val_two]
    show (j.val / 128 * 128 + j.val % 128) * 32 + k.val / 128 = j.val * 32 + k.val / 128
    omega
  · exact broadcastInDim_apply _ _ _ _ _ (by intro a; match a with | ⟨0, _⟩ => rfl | ⟨1, _⟩ => rfl)

end Cert.Mla.Ref

end
-- ==== Proof.Mla.RefPay.lean ====
/-
  The reference's region over the extended reals: each of its four results, given what the arrays it reads hold.
-/
module

public import proofs.«01_k».proof.Proof.Gen.ReferenceIdeal.Value
public import proofs.«01_k».proof.Proof.Mla.Spec
public import Idealize.ShloMosaic.Lib.Pointwise.Contract

@[expose] public section

noncomputable section

namespace Cert.Mla.Ref

open Idealize.ShloMosaic hiding ix1 ix2 ix3 eq_ix2 eq_ix3
open Idealize.ShloMosaic.TcCoe Idealize.ShloMosaic.Tactic Idealize.ShloMosaic.ValueIdx
open Cert.ReferenceIdeal Cert.ReferenceIdeal.Gen Cert.ReferenceIdeal.Value

/-- What the arrays the region reads hold: the rows, the inverse scales and the scales at each column, the weights, and the
    weight scales at each row and column. -/
structure Reads (P0 : Vec Ideal S16384x4096 .bf16) (P1 : Vec Ideal S16384x4096 .f32) (P2 : Vec Ideal S16384x4096 .bf16)
    (WS : Vec Ideal S17x32 .f32) (P4 : Vec Ideal S2112x4096 .bf16) : Prop where
  inv : ∀ r k, P1 (ix2 r k) = invOf (grp (rowOf P0 r) (gOf k))
  scale : ∀ r k, P2 (ix2 r k) = xsAt (rowOf P0 r) (gOf k)
  ws : ∀ (j : Fin 2112) (k : Fin 4096), P4 (ix2 j k) = WS (ix2 (⟨j.val / 128, by have := j.isLt; omega⟩ : Fin 17) (gOf k))

variable {P0 : Vec Ideal S16384x4096 .bf16} {P1 : Vec Ideal S16384x4096 .f32} {P2 : Vec Ideal S16384x4096 .bf16}
  {WS : Vec Ideal S17x32 .f32} {P4 : Vec Ideal S2112x4096 .bf16} (h : Reads P0 P1 P2 WS P4) (W : Vec Ideal S2112x4096 .fp8e4m3)

include h

theorem pay4_apply (r : Fin 16384) (k : Fin 4096) : k0_pay4 (F := Ideal) P0 P1 (ix2 r k) = codeAt (rowOf P0 r) k := by
  unfold k0_pay4
  show min (Ideal.ieee 8 23 0x43E00000#32) (max (Ideal.ieee 8 23 0xC3E00000#32)
    (shapeCast S16384x4096 P0 shapeCasts_S16384x4096_S16384x4096 (ix2 r k) * shapeCast S16384x4096 P1 shapeCasts_S16384x4096_S16384x4096 (ix2 r k))) = _
  rw [shapeCast_self, shapeCast_self, h.inv]
  rfl

theorem pay5_apply (r : Fin 16384) (k : Fin 4096) : k0_pay5 (F := Ideal) P0 P1 P2 (ix2 r k) = xaAt (rowOf P0 r) k := by
  unfold k0_pay5
  show k0_pay4 (F := Ideal) P0 P1 (ix2 r k) * shapeCast S16384x4096 P2 shapeCasts_S16384x4096_S16384x4096 (ix2 r k) = _
  rw [pay4_apply h, shapeCast_self, h.scale]
  rfl

theorem pay6_apply (j : Fin 2112) (k : Fin 4096) : k0_pay6 (F := Ideal) W P4 (ix2 j k) = wAt WS W j k := by
  unfold k0_pay6
  show W (ix2 j k) * shapeCast S2112x4096 P4 shapeCasts_S2112x4096_S2112x4096 (ix2 j k) = _
  rw [shapeCast_self, h.ws]
  rfl

theorem pay7_apply (r : Fin 16384) (j : Fin 576) : k0_pay7 (F := Ideal) P0 P1 P2 W P4 (ix2 r j)
    = yAt WS W (rowOf P0 r) ⟨1536 + j.val, by have := j.isLt; omega⟩ := by
  have hj := j.isLt
  unfold k0_pay7
  refine (Ideal.matmul_apply₁_of dot_S16384x4096_S576x4096_S16384x576_1_1_0_0_n_n (a := 1) rfl (K := 4096) rfl _ _
    (constant (F := Ideal) S16384x576 .f32 0x00000000#32) (ix2 r j) (fun k => ix2 r k) (fun k => ix2 j k) ?_ ?_).trans ?_
  · intro k; exact Shape.idx_ext₂ rfl rfl
  · intro k; exact Shape.idx_ext₂ rfl rfl
  · show Ideal.ofBits .f32 0x00000000#32 + _ = _
    rw [Ideal.ofBits_zero_f32, zero_add]
    unfold yAt
    refine Finset.sum_congr rfl fun k _ => ?_
    rw [pay5_apply h]
    refine congrArg (xaAt (rowOf P0 r) k * ·) ?_
    refine (extractStridedSlice_apply _ _ _ (ix2 j k) (ix2 (⟨1536 + j.val, by omega⟩ : Fin 2112) k) (by
      intro a; match a with | ⟨0, _⟩ => rfl | ⟨1, _⟩ => exact (Nat.zero_add _).symm)).trans ?_
    exact pay6_apply h W _ k

/-- The products of the first 1536 rows of the weights. -/
theorem prodQ_apply (r : Fin 16384) (j : Fin 1536) :
    matmul (F := Ideal) (φ₁ := .bf16) (φ₂ := .bf16) dot_S16384x4096_S1536x4096_S16384x1536_1_1_0_0_n_n none (k0_pay5 P0 P1 P2)
      (extractStridedSlice S1536x4096 ![0, 0] (k0_pay6 W P4) slices_S2112x4096_o0_0_S1536x4096)
      (constant (F := Ideal) S16384x1536 .f32 0x00000000#32) (ix2 r j)
    = yAt WS W (rowOf P0 r) ⟨j.val, by have := j.isLt; omega⟩ := by
  have hj := j.isLt
  refine (Ideal.matmul_apply₁_of dot_S16384x4096_S1536x4096_S16384x1536_1_1_0_0_n_n (a := 1) rfl (K := 4096) rfl _ _
    (constant (F := Ideal) S16384x1536 .f32 0x00000000#32) (ix2 r j) (fun k => ix2 r k) (fun k => ix2 j k) ?_ ?_).trans ?_
  · intro k; exact Shape.idx_ext₂ rfl rfl
  · intro k; exact Shape.idx_ext₂ rfl rfl
  · show Ideal.ofBits .f32 0x00000000#32 + _ = _
    rw [Ideal.ofBits_zero_f32, zero_add]
    unfold yAt
    refine Finset.sum_congr rfl fun k _ => ?_
    rw [pay5_apply h]
    refine congrArg (xaAt (rowOf P0 r) k * ·) ?_
    refine (extractStridedSlice_apply _ _ _ (ix2 j k) (ix2 (⟨j.val, by omega⟩ : Fin 2112) k) (by
      intro a; match a with | ⟨0, _⟩ => exact (Nat.zero_add _).symm | ⟨1, _⟩ => exact (Nat.zero_add _).symm)).trans ?_
    exact pay6_apply h W _ k

omit h in
/-- A row of products scaled to unit mean square. -/
theorem normed (v : FVec Ideal S16384x1536 .f32) (r : Fin 16384) (j : Fin 1536) :
    mulf v (broadcastTo S16384x1536 (rsqrt (addf (divf (shapeCast S16384x1 (multiReduction .add [1] S16384 (mulf v v) 0x00000000#32 reduces_S16384x1536_S16384 (.inl rfl) rfl) shapeCasts_S16384_S16384x1)
      (broadcast S16384x1 (Scalar.ofBits (F := Ideal) .f32 0x44C00000#32))) (broadcast S16384x1 (Scalar.ofBits (F := Ideal) .f32 0x358637BD#32)))) broadcasts_S16384x1_S16384x1536) (ix2 r j)
    = v (ix2 r j) * Ideal.rsqrt (Ideal.div (∑ k, rowOf v r k * rowOf v r k) (Ideal.ieee 8 23 0x44C00000#32) + Ideal.ieee 8 23 0x358637BD#32) := by
  have e : ∀ (y : S16384.Idx → EReal), shapeCast S16384x1 y shapeCasts_S16384_S16384x1 (ix2 r 0) = y (ix1 r) := fun y =>
    shapeCast_apply _ _ _ _ (by rw [Shape.rowMajor_val_two, Shape.rowMajor_val_one]; show r.val = r.val * 1 + 0; omega)
  have hb : ∀ (y : S16384x1.Idx → EReal), broadcastTo S16384x1536 y broadcasts_S16384x1_S16384x1536 (ix2 r j) = y (ix2 r 0) := fun y =>
    broadcastTo_apply _ _ (ix2 r j) (ix2 r 0 : S16384x1.Idx) (by intro a; match a with | ⟨0, _⟩ => rfl | ⟨1, _⟩ => rfl)
  have hs : multiReduction (F := Ideal) (φ := .f32) .add [1] S16384 (mulf v v) 0x00000000#32 reduces_S16384x1536_S16384 (.inl rfl) rfl (ix1 r)
      = ∑ k : Fin 1536, rowOf v r k * rowOf v r k := by
    refine (Ideal.multiReduction_add_single _ _ _ _ _ _).trans ?_
    refine Finset.sum_congr rfl fun k _ => ?_
    have e : reduces_S16384x1536_S16384.lift (ix1 r) k = ix2 r k :=
      Shape.idx_ext₂ (by rw [Shape.Reduces.lift_val]; rfl) (by rw [Shape.Reduces.lift_val]; rfl)
    show v (reduces_S16384x1536_S16384.lift (ix1 r) k) * v (reduces_S16384x1536_S16384.lift (ix1 r) k) = _
    rw [e]; rfl
  show v (ix2 r j) * broadcastTo S16384x1536 _ broadcasts_S16384x1_S16384x1536 (ix2 r j) = _
  rw [hb]
  show v (ix2 r j) * Ideal.rsqrt (Ideal.div (shapeCast S16384x1 _ shapeCasts_S16384_S16384x1 (ix2 r 0)) _ + _) = _
  rw [e, hs]
  rfl

theorem E7_apply (GQ : Vec Ideal S1x1536 .bf16) (r : Fin 16384) (j : Fin 1536) :
    E7 (F := Ideal) P0 P1 P2 W P4 GQ (ix2 r j) = qAt WS W (rowOf GQ (0 : Fin 1)) (rowOf P0 r) j := by
  have e8 : k0_pay8 (F := Ideal) P0 P1 P2 W P4 (ix2 r j)
      = yAt WS W (rowOf P0 r) ⟨j.val, by have := j.isLt; omega⟩ * Ideal.rsqrt (Ideal.div
        (∑ k : Fin 1536, yAt WS W (rowOf P0 r) ⟨k.val, by have := k.isLt; omega⟩ * yAt WS W (rowOf P0 r) ⟨k.val, by have := k.isLt; omega⟩)
        (Ideal.ieee 8 23 0x44C00000#32) + Ideal.ieee 8 23 0x358637BD#32) := by
    unfold k0_pay8
    refine (normed _ r j).trans ?_
    rw [prodQ_apply h W r j]
    refine congrArg (fun z => _ * Ideal.rsqrt (Ideal.div z _ + _)) (Finset.sum_congr rfl fun k _ => ?_)
    have e := prodQ_apply h W r k
    exact congrArg₂ (· * ·) e e
  have i0 : ix7_0 (ix2 r j) = ix2 r j := Shape.idx_ext₂ rfl rfl
  have i1 : ix7_1 (ix2 r j) = ix2 (0 : Fin 1) j := Shape.idx_ext₂ rfl rfl
  show k0_pay8 (F := Ideal) P0 P1 P2 W P4 (ix7_0 (ix2 r j)) * GQ (ix7_1 (ix2 r j)) = _
  rw [i0, i1, e8]
  rfl

theorem E8_apply (GC : Vec Ideal S1x512 .bf16) (r : Fin 16384) (j : Fin 512) :
    E8 (F := Ideal) P0 P1 P2 W P4 GC (ix2 r j) = cAt WS W (rowOf GC (0 : Fin 1)) (rowOf P0 r) j := by
  have hj := j.isLt
  have hx : ∀ k : Fin 512, extractStridedSlice S16384x512 ![0, 0] (k0_pay7 (F := Ideal) P0 P1 P2 W P4) slices_S16384x576_o0_0_S16384x512 (ix2 r k)
      = yAt WS W (rowOf P0 r) ⟨1536 + k.val, by have := k.isLt; omega⟩ := fun k =>
    (extractStridedSlice_apply _ _ _ (ix2 r k) (ix2 r (⟨k.val, by have := k.isLt; omega⟩ : Fin 576)) (by
      intro a; match a with | ⟨0, _⟩ => exact (Nat.zero_add _).symm | ⟨1, _⟩ => exact (Nat.zero_add _).symm)).trans
      (pay7_apply h W r _)
  have hs : ∀ v : FVec Ideal S16384x512 .f32, multiReduction (F := Ideal) (φ := .f32) .add [1] S16384 (mulf v v) 0x00000000#32 reduces_S16384x512_S16384 (.inl rfl) rfl (ix1 r)
      = ∑ k : Fin 512, v (ix2 r k) * v (ix2 r k) := fun v => by
    refine (Ideal.multiReduction_add_single _ _ _ _ _ _).trans ?_
    refine Finset.sum_congr rfl fun k _ => ?_
    have e : reduces_S16384x512_S16384.lift (ix1 r) k = ix2 r k :=
      Shape.idx_ext₂ (by rw [Shape.Reduces.lift_val]; rfl) (by rw [Shape.Reduces.lift_val]; rfl)
    show v (reduces_S16384x512_S16384.lift (ix1 r) k) * v (reduces_S16384x512_S16384.lift (ix1 r) k) = _
    rw [e]; rfl
  have i0 : ix8_0 (ix2 r j) = ix2 r (⟨j.val, by omega⟩ : Fin 576) := Shape.idx_ext₂ rfl rfl
  have i1 : ix8_1 (ix2 r j) = ix1 r := funext fun a => match a with | ⟨0, _⟩ => rfl
  have i2 : ix8_2 (ix2 r j) = ix2 (0 : Fin 1) j := Shape.idx_ext₂ rfl rfl
  show k0_pay7 (F := Ideal) P0 P1 P2 W P4 (ix8_0 (ix2 r j)) * Ideal.rsqrt (Ideal.div (multiReduction (F := Ideal) (φ := .f32) .add [1] S16384
    (mulf _ _) 0x00000000#32 reduces_S16384x512_S16384 (.inl rfl) rfl (ix8_1 (ix2 r j))) (Ideal.ieee 8 23 0x44000000#32) + Ideal.ieee 8 23 0x358637BD#32)
    * GC (ix8_2 (ix2 r j)) = _
  rw [i0, i1, i2, hs, pay7_apply h W]
  unfold cAt normAt
  refine congrArg (fun z => _ * Ideal.rsqrt (Ideal.div z _ + _) * _) (Finset.sum_congr rfl fun k _ => ?_)
  exact congrArg₂ (· * ·) (hx k) (hx k)

theorem E9_apply (r : Fin 16384) (j : Fin 64) :
    E9 (F := Ideal) P0 P1 P2 W P4 (ix2 r j) = kAt WS W (rowOf P0 r) j := by
  have hj := j.isLt
  have i0 : ix9_0 (ix2 r j) = ix2 r (⟨j.val + 512, by omega⟩ : Fin 576) := Shape.idx_ext₂ rfl rfl
  show k0_pay7 (F := Ideal) P0 P1 P2 W P4 (ix9_0 (ix2 r j)) = _
  rw [i0, pay7_apply h W]
  unfold kAt
  exact congrArg (yAt WS W (rowOf P0 r)) (Fin.ext (by show 1536 + (j.val + 512) = 2048 + j.val; omega))

theorem E10_apply (r : Fin 16384) (j : Fin 4096) :
    E10 (F := Ideal) P0 P1 (ix2 r j) = codeAt (rowOf P0 r) j := by
  have i0 : ix10_0 (ix2 r j) = ix2 r j := Shape.idx_ext₂ rfl rfl
  have i1 : ix10_1 (ix2 r j) = ix2 r j := Shape.idx_ext₂ rfl rfl
  show min (Ideal.ieee 8 23 0x43E00000#32) (max (Ideal.ieee 8 23 0xC3E00000#32) (P0 (ix10_0 (ix2 r j)) * P1 (ix10_1 (ix2 r j)))) = _
  rw [i0, i1, h.inv]
  rfl

end Cert.Mla.Ref

end
-- ==== Proof.Mla.Ref.lean ====
/-
  The reference's five results as functions of its arguments.
-/
module

public import proofs.«01_k».proof.Proof.Mla.RefHost
public import proofs.«01_k».proof.Proof.Mla.RefPay

@[expose] public section

set_option maxRecDepth 16384

noncomputable section

namespace Cert.Mla.Ref

open Idealize.ShloMosaic hiding ix1 ix2 ix3 eq_ix2 eq_ix3
open Idealize Idealize.SL Idealize.SL.Sem
open Idealize.ShloMosaic.TcCoe Idealize.ShloMosaic.Tactic Idealize.ShloMosaic.ValueIdx
open Cert.ReferenceIdeal Cert.ReferenceIdeal.Gen Cert.ReferenceIdeal.Value

variable (m : (ℓ : Loc nD τ sig) → Buf (Elt Ideal) ℓ) (ρ : Dev nD → PrngReg)

/-! ## The arrays the region reads -/

theorem reads (c : Dev nD) : Reads (V m c main_v34) (V m c main_v24) (V m c main_v27) (m ((c : Thread nD τ).loc main_arg2)) (V m c main_v33) where
  inv r k := by
    rw [V_v34, V_v24]
    exact (spread_apply _ r k).trans (hostInv_apply _ r (gOf k))
  scale r k := by
    rw [V_v34, V_v27]
    exact (spread_apply _ r k).trans (hostScale_apply _ r (gOf k))
  ws j k := by
    rw [V_v33]
    exact spreadW_apply _ j k

theorem ix_0 : ∀ t : Fin cfg0.N, win0_0.index t = ![0, 0] := (by decide +kernel : ∀ t : Fin grid0.N, win0_0.index t = ![0, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])
theorem ix_9 : ∀ t : Fin cfg0.N, win0_9.index t = ![0, 0] := (by decide +kernel : ∀ t : Fin grid0.N, win0_9.index t = ![0, 0])
theorem ix_10 : ∀ t : Fin cfg0.N, win0_10.index t = ![0, 0] := (by decide +kernel : ∀ t : Fin grid0.N, win0_10.index t = ![0, 0])

theorem in_0 (c : Dev nD) (t : Fin cfg0.N) : (iblk m c 0 t : Vec Ideal S16384x4096 .bf16) = V m c main_v34 := by
  funext y
  blk_simp [iblk]
  refine congrArg (V m c main_v34) ?_
  blk_ext [ix_0]
theorem in_1 (c : Dev nD) (t : Fin cfg0.N) : (iblk m c 1 t : Vec Ideal S2112x4096 .fp8e4m3) = V m c main_arg1 := by
  funext y
  blk_simp [iblk]
  refine congrArg (V m c main_arg1) ?_
  blk_ext [ix_1]
theorem in_2 (c : Dev nD) (t : Fin cfg0.N) : (iblk m c 2 t : Vec Ideal S16384x4096 .f32) = V m c main_v24 := by
  funext y
  blk_simp [iblk]
  refine congrArg (V m c main_v24) ?_
  blk_ext [ix_2]
theorem in_3 (c : Dev nD) (t : Fin cfg0.N) : (iblk m c 3 t : Vec Ideal S16384x4096 .bf16) = V m c main_v27 := by
  funext y
  blk_simp [iblk]
  refine congrArg (V m c main_v27) ?_
  blk_ext [ix_3]
theorem in_4 (c : Dev nD) (t : Fin cfg0.N) : (iblk m c 4 t : Vec Ideal S2112x4096 .bf16) = V m c main_v33 := by
  funext y
  blk_simp [iblk]
  refine congrArg (V m c main_v33) ?_
  blk_ext [ix_4]
theorem in_5 (c : Dev nD) (t : Fin cfg0.N) : (iblk m c 5 t : Vec Ideal S1x1536 .bf16) = V m c main_v35 := by
  funext y
  blk_simp [iblk]
  refine congrArg (V m c main_v35) ?_
  blk_ext [ix_5]
theorem in_6 (c : Dev nD) (t : Fin cfg0.N) : (iblk m c 6 t : Vec Ideal S1x512 .bf16) = V m c main_v36 := by
  funext y
  blk_simp [iblk]
  refine congrArg (V m c main_v36) ?_
  blk_ext [ix_6]

/-! ## Reading a whole array -/

theorem ld_0 {e : EltTy} (x : Vec Ideal S16384x4096 e) : View.ld x r0_0 = x := by
  funext y; exact congrArg x (Shape.idx_ext₂ (by show 0 + 1 * (y 0).val = _; omega) (by show 0 + 1 * (y 1).val = _; omega))
theorem ld_1 {e : EltTy} (x : Vec Ideal S2112x4096 e) : View.ld x r0_1 = x := by
  funext y; exact congrArg x (Shape.idx_ext₂ (by show 0 + 1 * (y 0).val = _; omega) (by show 0 + 1 * (y 1).val = _; omega))
theorem ld_2 {e : EltTy} (x : Vec Ideal S1x1536 e) : View.ld x r0_2 = x := by
  funext y; exact congrArg x (Shape.idx_ext₂ (by show 0 + 1 * (y 0).val = _; omega) (by show 0 + 1 * (y 1).val = _; omega))
theorem ld_4 {e : EltTy} (x : Vec Ideal S1x512 e) : View.ld x r0_4 = x := by
  funext y; exact congrArg x (Shape.idx_ext₂ (by show 0 + 1 * (y 0).val = _; omega) (by show 0 + 1 * (y 1).val = _; omega))

/-! ## The results -/

theorem out_7 (c : Dev nD) (y) : out0_7 (F := Ideal) (V m c main_v34) (V m c main_arg1) (V m c main_v24) (V m c main_v27) (V m c main_v33) (V m c main_v35) (V m c main_v36) y
    = qS (V m c main_v34) (V m c main_arg1) (m ((c : Thread nD τ).loc main_arg2)) (V m c main_v35) y := by
  unfold out0_7
  rw [ld_0, ld_0, ld_0, ld_1, ld_1, ld_2]
  refine (canon7_eq (V m c main_v34) (V m c main_v24) (V m c main_v27) (V m c main_arg1) (V m c main_v33) (V m c main_v35) y).trans ?_
  exact (congrArg _ (eq_ix2 y)).trans (E7_apply (reads m c) (V m c main_arg1) (V m c main_v35) (y 0) (y 1))

theorem fin_7 (c : Dev nD) : (dats m 0 c).arrAt 7 cfg0.N = qS (V m c main_v34) (V m c main_arg1) (m ((c : Thread nD τ).loc main_arg2)) (V m c main_v35) := by
  refine (dats m 0 c).arrAt_eq_of_covers 7 _ (by decide +kernel) fun t hf y => ?_
  blk_simp
  rw [after0_7, in_0, in_1, in_2, in_3, in_4, in_5, in_6]
  refine (out_7 m c y).trans (congrArg (qS (V m c main_v34) (V m c main_arg1) (m ((c : Thread nD τ).loc main_arg2)) (V m c main_v35)) ?_)
  blk_ext [ix_7]

theorem out_8 (c : Dev nD) (y) : out0_8 (F := Ideal) (V m c main_v34) (V m c main_arg1) (V m c main_v24) (V m c main_v27) (V m c main_v33) (V m c main_v35) (V m c main_v36) y
    = cS (V m c main_v34) (V m c main_arg1) (m ((c : Thread nD τ).loc main_arg2)) (V m c main_v36) y := by
  unfold out0_8 k0_pay10
  rw [ld_0, ld_0, ld_0, ld_1, ld_1, ld_4]
  refine (canon8_eq (V m c main_v34) (V m c main_v24) (V m c main_v27) (V m c main_arg1) (V m c main_v33) (V m c main_v36) y).trans ?_
  exact (congrArg _ (eq_ix2 y)).trans (E8_apply (reads m c) (V m c main_arg1) (V m c main_v36) (y 0) (y 1))

theorem fin_8 (c : Dev nD) : (dats m 0 c).arrAt 8 cfg0.N = cS (V m c main_v34) (V m c main_arg1) (m ((c : Thread nD τ).loc main_arg2)) (V m c main_v36) := by
  refine (dats m 0 c).arrAt_eq_of_covers 8 _ (by decide +kernel) fun t hf y => ?_
  blk_simp
  rw [after0_8, in_0, in_1, in_2, in_3, in_4, in_5, in_6]
  refine (out_8 m c y).trans (congrArg (cS (V m c main_v34) (V m c main_arg1) (m ((c : Thread nD τ).loc main_arg2)) (V m c main_v36)) ?_)
  blk_ext [ix_8]

theorem out_9 (c : Dev nD) (y) : out0_9 (F := Ideal) (V m c main_v34) (V m c main_arg1) (V m c main_v24) (V m c main_v27) (V m c main_v33) (V m c main_v35) (V m c main_v36) y
    = kS (V m c main_v34) (V m c main_arg1) (m ((c : Thread nD τ).loc main_arg2)) y := by
  unfold out0_9 k0_pay10
  rw [ld_0, ld_0, ld_0, ld_1, ld_1]
  refine (canon9_eq (V m c main_v34) (V m c main_v24) (V m c main_v27) (V m c main_arg1) (V m c main_v33) y).trans ?_
  exact (congrArg _ (eq_ix2 y)).trans (E9_apply (reads m c) (V m c main_arg1) (y 0) (y 1))

theorem fin_9 (c : Dev nD) : (dats m 0 c).arrAt 9 cfg0.N = kS (V m c main_v34) (V m c main_arg1) (m ((c : Thread nD τ).loc main_arg2)) := by
  refine (dats m 0 c).arrAt_eq_of_covers 9 _ (by decide +kernel) fun t hf y => ?_
  blk_simp
  rw [after0_9, in_0, in_1, in_2, in_3, in_4, in_5, in_6]
  refine (out_9 m c y).trans (congrArg (kS (V m c main_v34) (V m c main_arg1) (m ((c : Thread nD τ).loc main_arg2))) ?_)
  blk_ext [ix_9]

theorem out_10 (c : Dev nD) (y) : out0_10 (F := Ideal) (V m c main_v34) (V m c main_arg1) (V m c main_v24) (V m c main_v27) (V m c main_v33) (V m c main_v35) (V m c main_v36) y
    = codesS (V m c main_v34) y := by
  unfold out0_10
  rw [ld_0, ld_0]
  refine (canon10_eq (V m c main_v34) (V m c main_v24) y).trans ?_
  exact (congrArg _ (eq_ix2 y)).trans (E10_apply (reads m c) (y 0) (y 1))

theorem fin_10 (c : Dev nD) : (dats m 0 c).arrAt 10 cfg0.N = codesS (V m c main_v34) := by
  refine (dats m 0 c).arrAt_eq_of_covers 10 _ (by decide +kernel) fun t hf y => ?_
  blk_simp
  rw [after0_10, in_0, in_1, in_2, in_3, in_4, in_5, in_6]
  refine (out_10 m c y).trans (congrArg (codesS (V m c main_v34)) ?_)
  blk_ext [ix_10]

theorem scales_eq (c : Dev nD) : V m c main_v19 = scalesS (V m c main_v34) := by
  rw [V_v19, V_v34]
  funext y
  exact (congrArg _ (eq_ix2 y)).trans (hostScale_apply _ (y 0) (y 1))

end Cert.Mla.Ref

end
-- ==== Proof.Mla.Equal.lean ====
/-
  The kernel and the reference end with the same five results from the same arguments.
-/
module

public import proofs.«01_k».proof.Defs
public import proofs.«01_k».proof.Proof.Mla.Final
public import proofs.«01_k».proof.Proof.Mla.Ref

@[expose] public section

set_option maxRecDepth 16384

noncomputable section

namespace Cert.Mla

open Idealize.ShloMosaic hiding ix1 ix2 ix3 eq_ix2 eq_ix3
open Idealize Idealize.SL Idealize.SL.Sem
open Idealize.ShloMosaic.TcCoe Idealize.ShloMosaic.Tactic Idealize.ShloMosaic.ValueIdx

/-! ## The five results of one set of arguments -/

section
variable (x : Vec Ideal KernelIdeal.S2x8192x4096 .bf16) (w : Vec Ideal KernelIdeal.S2112x4096 .fp8e4m3) (ws : Vec Ideal KernelIdeal.S17x32 .f32)
  (gq : Vec Ideal KernelIdeal.S1536 .bf16) (gc : Vec Ideal KernelIdeal.S512 .bf16)

def resQ : Vec Ideal KernelIdeal.S16384x1536 .bf16 :=
  qS (Ref.rows x) w ws (shapeCast KernelIdeal.S1x1536 gq KernelIdeal.Gen.shapeCasts_S1536_S1x1536)
def resC : Vec Ideal KernelIdeal.S16384x512 .bf16 :=
  cS (Ref.rows x) w ws (shapeCast KernelIdeal.S1x512 gc KernelIdeal.Gen.shapeCasts_S512_S1x512)
def resK : Vec Ideal KernelIdeal.S16384x64 .bf16 := kS (Ref.rows x) w ws
def resCodes : Vec Ideal KernelIdeal.S16384x4096 .fp8e4m3 := codesS (Ref.rows x)
def resScales : Vec Ideal KernelIdeal.S16384x32 .f32 := scalesS (Ref.rows x)
end

/-! ## The kernel's -/

section
open Cert.KernelIdeal Cert.KernelIdeal.Gen
variable (m : (ℓ : Loc nD τ sig) → Buf (Elt Ideal) ℓ) (ρ : Dev nD → PrngReg)

theorem V_v0 (c : Dev nD) : V m c main_v0 = Ref.rows (m ((c : Thread nD τ).loc main_arg0)) := by
  unfold V
  after_reads_simp
  rfl
theorem V_v1 (c : Dev nD) : V m c main_v1 = shapeCast S1x1536 (m ((c : Thread nD τ).loc main_arg3)) shapeCasts_S1536_S1x1536 := by
  unfold V
  after_reads_simp
  rfl
theorem V_v2 (c : Dev nD) : V m c main_v2 = shapeCast S1x512 (m ((c : Thread nD τ).loc main_arg4)) shapeCasts_S512_S1x512 := by
  unfold V
  after_reads_simp
  rfl

theorem kernel_run : θ_run defs (onTc (τ := τ) (main (F := Ideal))) ⟨m, fun _ => 0, ρ⟩ (fun r => ∀ c : Dev nD,
      r.2.mem ((c.tc : Thread nD τ).loc main_v3_0) = resQ (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v3_1) = resC (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_v3_2) = resK (m ((c.tc : Thread nD τ).loc main_arg0)) (m ((c.tc : Thread nD τ).loc main_arg1))
        (m ((c.tc : Thread nD τ).loc main_arg2))
      ∧ r.2.mem ((c.tc : Thread nD τ).loc main_v3_3) = resCodes (m ((c.tc : Thread nD τ).loc main_arg0))
      ∧ r.2.mem ((c.tc : Thread nD τ).loc main_v3_4) = resScales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_R m ρ) (frame_R m ρ))
  have hp := (h.1.1 c).1
  refine ⟨(hp 5).trans ((fin_5 m c).trans ?_), (hp 6).trans ((fin_6 m c).trans ?_), (hp 7).trans ((fin_7 m c).trans ?_),
    (hp 8).trans ((fin_8 m c).trans ?_), (hp 9).trans ((fin_9 m c).trans ?_), h.2.1 c⟩
  · rw [V_v0, V_main_arg1, V_main_arg2, V_v1]; rfl
  · rw [V_v0, V_main_arg1, V_main_arg2, V_v2]; rfl
  · rw [V_v0, V_main_arg1, V_main_arg2]; rfl
  · rw [V_v0]; rfl
  · rw [V_v0]; rfl
end

/-! ## The reference's -/

section
open Cert.ReferenceIdeal Cert.ReferenceIdeal.Gen Cert.ReferenceIdeal.Value
variable (m : (ℓ : Loc nD τ sig) → Buf (Elt Ideal) ℓ) (ρ : Dev nD → PrngReg)

theorem reference_run : θ_run defs (onTc (τ := τ) (main (F := Ideal))) ⟨m, fun _ => 0, ρ⟩ (fun r => ∀ c : Dev nD,
      r.2.mem ((c.tc : Thread nD τ).loc main_v37_0) = resQ (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v37_1) = resC (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_v37_2) = resK (m ((c.tc : Thread nD τ).loc main_arg0)) (m ((c.tc : Thread nD τ).loc main_arg1))
        (m ((c.tc : Thread nD τ).loc main_arg2))
      ∧ r.2.mem ((c.tc : Thread nD τ).loc main_v37_3) = resCodes (m ((c.tc : Thread nD τ).loc main_arg0))
      ∧ r.2.mem ((c.tc : Thread nD τ).loc main_v19) = resScales (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  have hs : r.2.mem ((c.tc : Thread nD τ).loc main_v19) = V m c main_v19 :=
    (h c).2 main_v19 (Pipeline.mem_restRefs_of main_v19 (by decide) (by decide))
  refine ⟨(post7 m r h c).trans ((Ref.fin_7 m c).trans ?_), (post8 m r h c).trans ((Ref.fin_8 m c).trans ?_),
    (post9 m r h c).trans ((Ref.fin_9 m c).trans ?_), (post10 m r h c).trans ((Ref.fin_10 m c).trans ?_),
    hs.trans ((Ref.scales_eq m c).trans ?_), kept_main_arg0 m r h c, kept_main_arg1 m r h c, kept_main_arg2 m r h c,
    kept_main_arg3 m r h c, kept_main_arg4 m r h c⟩
  · rw [Ref.V_v34, V_main_arg1, Ref.V_v35]; rfl
  · rw [Ref.V_v34, V_main_arg1, Ref.V_v36]; rfl
  · rw [Ref.V_v34, V_main_arg1]; rfl
  · rw [Ref.V_v34]; rfl
  · rw [Ref.V_v34]; rfl
end

/-- The two programs end with equal results from equal arguments. -/
theorem equal : algebraic_KernelIdeal_ReferenceIdeal (hKernelIdeal := KernelIdeal.Gen.facts) (hReferenceIdeal := ReferenceIdeal.Gen.facts) := by
  intro m g m' g' _ hagree
  refine ⟨_, _, _, _, _, kernel_run m g, (θ_run _ _ _).mono (fun r h c => ?_) (reference_run m' g')⟩
  obtain ⟨e0, e1, e2, e3, e4⟩ := hagree c
  obtain ⟨h0, h1, h2, h3, h4, hk⟩ := h c
  refine ⟨h0.trans ?_, h1.trans ?_, h2.trans ?_, h3.trans ?_, h4.trans ?_, hk⟩
  · rw [e0, e1, e2, e3]
  · rw [e0, e1, e2, e4]
  · rw [e0, e1, e2]
  · rw [e0]
  · rw [e0]

end Cert.Mla

end
-- ==== Proof.lean ====
module

public import proofs.«01_k».proof.Defs
public import proofs.«01_k».proof.Proof.Gen.ReferenceIdeal.Frame
public import proofs.«01_k».proof.Proof.Gen.ReferenceIdeal.Value
public import proofs.«01_k».proof.Proof.Mla.Run
public import proofs.«01_k».proof.Proof.Mla.Same
public import proofs.«01_k».proof.Proof.Mla.Equal

@[expose] public section

theorem Cert.Proof.claim : Cert.Claim :=
  ⟨Cert.Kernel.Gen.facts, Cert.KernelIdeal.Gen.facts, Cert.ReferenceIdeal.Gen.facts,
    Cert.Mla.frame_K, fun m ρ _ => Cert.Mla.frame_R m ρ, fun m ρ _ => Cert.ReferenceIdeal.Gen.frame m ρ,
    trivial, Cert.Mla.equal⟩
